-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v2_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x16 : Shape := ⟨2, ![128, 16]⟩
abbrev S256x1 : Shape := ⟨2, ![256, 1]⟩
abbrev S2x128x256 : Shape := ⟨3, ![2, 128, 256]⟩
abbrev S256x256 : Shape := ⟨2, ![256, 256]⟩
abbrev S24x256 : Shape := ⟨2, ![24, 256]⟩
abbrev S192x256 : Shape := ⟨2, ![192, 256]⟩
abbrev S_ : Shape := ⟨0, ![]⟩
abbrev S256x16 : Shape := ⟨2, ![256, 16]⟩
abbrev S256 : Shape := ⟨1, ![256]⟩
abbrev S256x24 : Shape := ⟨2, ![256, 24]⟩
abbrev S24x128 : Shape := ⟨2, ![24, 128]⟩
abbrev S12x128 : Shape := ⟨2, ![12, 128]⟩
abbrev S1x128x256 : Shape := ⟨3, ![1, 128, 256]⟩
abbrev S128x256 : Shape := ⟨2, ![128, 256]⟩
abbrev S12x256 : Shape := ⟨2, ![12, 256]⟩
abbrev S256x192 : Shape := ⟨2, ![256, 192]⟩

abbrev nBuf : Space → Nat
  | .hbm => 5
  | .vmem => 6
  | .smem => 0
  | _ => 0

abbrev bufTy : (tb : Table) → Fin (tcTables nBuf tb) → BufTy
  | .hbm, ⟨0, _⟩ => ⟨S256x128, .bf16⟩
  | .hbm, ⟨1, _⟩ => ⟨S128x16, .bf16⟩
  | .hbm, ⟨2, _⟩ => ⟨S256x1, .i32⟩
  | .hbm, ⟨3, _⟩ => ⟨S2x128x256, .bf16⟩
  | .hbm, ⟨4, _⟩ => ⟨S256x256, .f32⟩
  | .local _ .vmem, ⟨0, _⟩ => ⟨S256x128, .bf16⟩
  | .local _ .vmem, ⟨1, _⟩ => ⟨S256x1, .i32⟩
  | .local _ .vmem, ⟨2, _⟩ => ⟨S2x128x256, .bf16⟩
  | .local _ .vmem, ⟨3, _⟩ => ⟨S256x256, .f32⟩
  | .local _ .vmem, ⟨4, _⟩ => ⟨S24x256, .bf16⟩
  | .local _ .vmem, ⟨5, _⟩ => ⟨S192x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c24_i32 : BitVec 32 := 24#32
  let v126 : BitVec 32 := Scalar.muli v2 c24_i32
  let v127 : Index := Scalar.indexCast v126
  let c0_58 : Index := 0#32
  ![v127.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c24_i32_60 : BitVec 32 := 24#32
  let v131 : BitVec 32 := Scalar.muli v2 c24_i32_60
  let c0_i32_65 : BitVec 32 := 0#32
  ![v131.toNat, 0]
def k0_dev8 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_61 : BitVec 32 := 1#32
  let v132 : BitVec 32 := Scalar.addi v2 c1_i32_61
  let c8_i32_62 : BitVec 32 := 8#32
  let v133 : BitVec 32 := Scalar.remsi v132 c8_i32_62
  let c1_i32_63 : BitVec 32 := 1#32
  let v134 : BitVec 32 := Scalar.muli v133 c1_i32_63
  let v135 : BitVec 32 := Scalar.addi c0_i32_64 v134
  v135.toNat
def k0_dev9 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_67 : BitVec 32 := 2#32
  let v138 : BitVec 32 := Scalar.addi v2 c2_i32_67
  let c8_i32_68 : BitVec 32 := 8#32
  let v139 : BitVec 32 := Scalar.remsi v138 c8_i32_68
  let c1_i32_69 : BitVec 32 := 1#32
  let v140 : BitVec 32 := Scalar.muli v139 c1_i32_69
  let v141 : BitVec 32 := Scalar.addi c0_i32_70 v140
  v141.toNat
def k0_dev10 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_73 : BitVec 32 := 3#32
  let v144 : BitVec 32 := Scalar.addi v2 c3_i32_73
  let c8_i32_74 : BitVec 32 := 8#32
  let v145 : BitVec 32 := Scalar.remsi v144 c8_i32_74
  let c1_i32_75 : BitVec 32 := 1#32
  let v146 : BitVec 32 := Scalar.muli v145 c1_i32_75
  let v147 : BitVec 32 := Scalar.addi c0_i32_76 v146
  v147.toNat
def k0_dev11 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_79 : BitVec 32 := 4#32
  let v150 : BitVec 32 := Scalar.addi v2 c4_i32_79
  let c8_i32_80 : BitVec 32 := 8#32
  let v151 : BitVec 32 := Scalar.remsi v150 c8_i32_80
  let c1_i32_81 : BitVec 32 := 1#32
  let v152 : BitVec 32 := Scalar.muli v151 c1_i32_81
  let v153 : BitVec 32 := Scalar.addi c0_i32_82 v152
  v153.toNat
def k0_dev12 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_85 : BitVec 32 := 5#32
  let v156 : BitVec 32 := Scalar.addi v2 c5_i32_85
  let c8_i32_86 : BitVec 32 := 8#32
  let v157 : BitVec 32 := Scalar.remsi v156 c8_i32_86
  let c1_i32_87 : BitVec 32 := 1#32
  let v158 : BitVec 32 := Scalar.muli v157 c1_i32_87
  let v159 : BitVec 32 := Scalar.addi c0_i32_88 v158
  v159.toNat
def k0_dev13 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_91 : BitVec 32 := 6#32
  let v162 : BitVec 32 := Scalar.addi v2 c6_i32_91
  let c8_i32_92 : BitVec 32 := 8#32
  let v163 : BitVec 32 := Scalar.remsi v162 c8_i32_92
  let c1_i32_93 : BitVec 32 := 1#32
  let v164 : BitVec 32 := Scalar.muli v163 c1_i32_93
  let v165 : BitVec 32 := Scalar.addi c0_i32_94 v164
  v165.toNat
def k0_dev14 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_97 : BitVec 32 := 7#32
  let v168 : BitVec 32 := Scalar.addi v2 c7_i32_97
  let c8_i32_98 : BitVec 32 := 8#32
  let v169 : BitVec 32 := Scalar.remsi v168 c8_i32_98
  let c1_i32_99 : BitVec 32 := 1#32
  let v170 : BitVec 32 := Scalar.muli v169 c1_i32_99
  let v171 : BitVec 32 := Scalar.addi c0_i32_100 v170
  v171.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x128 : Shape := ⟨2, ![256, 128]⟩
abbrev S128x16 : Shape := ⟨2, ![128, 16]⟩
abbrev S256x1 : Shape := ⟨2, ![256, 1]⟩
abbrev S16x128x256 : Shape := ⟨3, ![16, 128, 256]⟩
abbrev S_ : Shape := ⟨0, ![]⟩
abbrev S16 : Shape := ⟨1, ![16]⟩
abbrev S256x256 : Shape := ⟨2, ![256, 256]⟩
abbrev S1x1 : Shape := ⟨2, ![1, 1]⟩
abbrev S1 : Shape := ⟨1, ![1]⟩
abbrev S1x128 : Shape := ⟨2, ![1, 128]⟩
abbrev S128 : Shape := ⟨1, ![128]⟩
abbrev S1x128x256 : Shape := ⟨3, ![1, 128, 256]⟩
abbrev S128x256 : Shape := ⟨2, ![128, 256]⟩
abbrev S256 : Shape := ⟨1, ![256]⟩
abbrev S1x256 : Shape := ⟨2, ![1, 256]⟩

abbrev nBuf : Space → Nat
  | .hbm => 129
  | .vmem => 0
  | .smem => 0
  | _ => 0

abbrev hbmTy0_0 (i : Nat) : BufTy := match i % 128 with
  | 0 => ⟨S256x128, .bf16⟩
  | 1 => ⟨S128x16, .bf16⟩
  | 2 => ⟨S256x1, .i32⟩
  | 3 => ⟨S16x128x256, .bf16⟩
  | 4 => ⟨S_, .i32⟩
  | 5 => ⟨S16, .i32⟩
  | 6 => ⟨S_, .f32⟩
  | 7 => ⟨S256x256, .f32⟩
  | 8 => ⟨S_, .i32⟩
  | 9 => ⟨S_, .i32⟩
  | 10 => ⟨S256x1, .i32⟩
  | 11 => ⟨S256x128, .bf16⟩
  | 12 => ⟨S16x128x256, .bf16⟩
  | 13 => ⟨S_, .i32⟩
  | 14 => ⟨S_, .i32⟩
  | 15 => ⟨S16, .i32⟩
  | 16 => ⟨S256x256, .f32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S1x1, .i32⟩
  | 36 => ⟨S_, .i32⟩
  | 37 => ⟨S_, .i32⟩
  | 38 => ⟨S_, .i1⟩
  | 39 => ⟨S_, .i32⟩
  | 40 => ⟨S_, .i1⟩
  | 41 => ⟨S_, .i1⟩
  | 42 => ⟨S_, .i32⟩
  | 43 => ⟨S_, .i1⟩
  | 44 => ⟨S_, .i32⟩
  | 45 => ⟨S_, .i32⟩
  | 46 => ⟨S_, .i32⟩
  | 47 => ⟨S1, .i32⟩
  | 48 => ⟨S_, .i32⟩
  | 49 => ⟨S_, .i32⟩
  | 50 => ⟨S_, .i1⟩
  | 51 => ⟨S_, .i1⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S1x128, .bf16⟩
  | 67 => ⟨S128, .bf16⟩
  | 68 => ⟨S128, .f32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S1x128x256, .bf16⟩
  | 91 => ⟨S128x256, .bf16⟩
  | 92 => ⟨S128x256, .f32⟩
  | 93 => ⟨S256, .f32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S1x256, .f32⟩
  | 109 => ⟨S256, .f32⟩
  | 110 => ⟨S256, .f32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S1, .i32⟩
  | 118 => ⟨S256x256, .f32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S1, .i32⟩
  | 126 => ⟨S16, .i32⟩
  | 127 => ⟨S_, .i32⟩
  | _ => ⟨S256x128, .bf16⟩

abbrev hbmTy0_1 (i : Nat) : BufTy := match i % 128 with
  | 0 => ⟨S_, .i32⟩
  | _ => ⟨S256x128, .bf16⟩

abbrev hbmTy (i : Nat) : BufTy := match i / 128 with
  | 0 => hbmTy0_0 i
  | 1 => hbmTy0_1 i
  | _ => ⟨S256x128, .bf16⟩

abbrev bufTy : (tb : Table) → Fin (tcTables nBuf tb) → BufTy
  | .hbm, ⟨i, _⟩ => hbmTy i
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c_0 : Ref sig .tc := ⟨.hbm, 8, rfl⟩
abbrev main_c_1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev main_while0c_c_8 : Ref sig .tc := ⟨.hbm, 17, rfl⟩
abbrev main_while0c_v3 : Ref sig .tc := ⟨.hbm, 18, rfl⟩
abbrev main_while0b_c_8 : Ref sig .tc := ⟨.hbm, 19, rfl⟩
abbrev main_while0b_v3 : Ref sig .tc := ⟨.hbm, 20, rfl⟩
abbrev main_while0b_v4 : Ref sig .tc := ⟨.hbm, 21, rfl⟩
abbrev main_while0b_c_9 : Ref sig .tc := ⟨.hbm, 22, rfl⟩
abbrev main_while0b_v5 : Ref sig .tc := ⟨.hbm, 23, rfl⟩
abbrev main_while0b_c_10 : Ref sig .tc := ⟨.hbm, 24, rfl⟩
abbrev main_while0b_v6 : Ref sig .tc := ⟨.hbm, 25, rfl⟩
abbrev main_while0b_v7 : Ref sig .tc := ⟨.hbm, 26, rfl⟩
abbrev main_while0b_c_11 : Ref sig .tc := ⟨.hbm, 27, rfl⟩
abbrev main_while0b_c_12 : Ref sig .tc := ⟨.hbm, 28, rfl⟩
abbrev main_while0b_v8 : Ref sig .tc := ⟨.hbm, 29, rfl⟩
abbrev main_while0b_c_13 : Ref sig .tc := ⟨.hbm, 30, rfl⟩
abbrev main_while0b_c_14 : Ref sig .tc := ⟨.hbm, 31, rfl⟩
abbrev main_while0b_v9 : Ref sig .tc := ⟨.hbm, 32, rfl⟩
abbrev main_while0b_c_15 : Ref sig .tc := ⟨.hbm, 33, rfl⟩
abbrev main_while0b_v10 : Ref sig .tc := ⟨.hbm, 34, rfl⟩
abbrev main_while0b_v11 : Ref sig .tc := ⟨.hbm, 35, rfl⟩
abbrev main_while0b_v12 : Ref sig .tc := ⟨.hbm, 36, rfl⟩
abbrev main_while0b_c_16 : Ref sig .tc := ⟨.hbm, 37, rfl⟩
abbrev main_while0b_v13 : Ref sig .tc := ⟨.hbm, 38, rfl⟩
abbrev main_while0b_c_17 : Ref sig .tc := ⟨.hbm, 39, rfl⟩
abbrev main_while0b_v14 : Ref sig .tc := ⟨.hbm, 40, rfl⟩
abbrev main_while0b_v15 : Ref sig .tc := ⟨.hbm, 41, rfl⟩
abbrev main_while0b_c_18 : Ref sig .tc := ⟨.hbm, 42, rfl⟩
abbrev main_while0b_v16 : Ref sig .tc := ⟨.hbm, 43, rfl⟩
abbrev main_while0b_c_19 : Ref sig .tc := ⟨.hbm, 44, rfl⟩
abbrev main_while0b_v17 : Ref sig .tc := ⟨.hbm, 45, rfl⟩
abbrev main_while0b_v18 : Ref sig .tc := ⟨.hbm, 46, rfl⟩
abbrev main_while0b_v19 : Ref sig .tc := ⟨.hbm, 47, rfl⟩
abbrev main_while0b_v20 : Ref sig .tc := ⟨.hbm, 48, rfl⟩
abbrev main_while0b_c_20 : Ref sig .tc := ⟨.hbm, 49, rfl⟩
abbrev main_while0b_v21 : Ref sig .tc := ⟨.hbm, 50, rfl⟩
abbrev main_while0b_v22 : Ref sig .tc := ⟨.hbm, 51, rfl⟩
abbrev main_while0b_v23 : Ref sig .tc := ⟨.hbm, 52, rfl⟩
abbrev main_while0b_c_21 : Ref sig .tc := ⟨.hbm, 53, rfl⟩
abbrev main_while0b_v24 : Ref sig .tc := ⟨.hbm, 54, rfl⟩
abbrev main_while0b_c_22 : Ref sig .tc := ⟨.hbm, 55, rfl⟩
abbrev main_while0b_v25 : Ref sig .tc := ⟨.hbm, 56, rfl⟩
abbrev main_while0b_v26 : Ref sig .tc := ⟨.hbm, 57, rfl⟩
abbrev main_while0b_c_23 : Ref sig .tc := ⟨.hbm, 58, rfl⟩
abbrev main_while0b_c_24 : Ref sig .tc := ⟨.hbm, 59, rfl⟩
abbrev main_while0b_v27 : Ref sig .tc := ⟨.hbm, 60, rfl⟩
abbrev main_while0b_c_25 : Ref sig .tc := ⟨.hbm, 61, rfl⟩
abbrev main_while0b_c_26 : Ref sig .tc := ⟨.hbm, 62, rfl⟩
abbrev main_while0b_v28 : Ref sig .tc := ⟨.hbm, 63, rfl⟩
abbrev main_while0b_c_27 : Ref sig .tc := ⟨.hbm, 64, rfl⟩
abbrev main_while0b_v29 : Ref sig .tc := ⟨.hbm, 65, rfl⟩
abbrev main_while0b_v30 : Ref sig .tc := ⟨.hbm, 66, rfl⟩
abbrev main_while0b_v31 : Ref sig .tc := ⟨.hbm, 67, rfl⟩
abbrev main_while0b_v32 : Ref sig .tc := ⟨.hbm, 68, rfl⟩
abbrev main_while0b_c_28 : Ref sig .tc := ⟨.hbm, 69, rfl⟩
abbrev main_while0b_v33 : Ref sig .tc := ⟨.hbm, 70, rfl⟩
abbrev main_while0b_c_29 : Ref sig .tc := ⟨.hbm, 71, rfl⟩
abbrev main_while0b_v34 : Ref sig .tc := ⟨.hbm, 72, rfl⟩
abbrev main_while0b_v35 : Ref sig .tc := ⟨.hbm, 73, rfl⟩
abbrev main_while0b_c_30 : Ref sig .tc := ⟨.hbm, 74, rfl⟩
abbrev main_while0b_c_31 : Ref sig .tc := ⟨.hbm, 75, rfl⟩
abbrev main_while0b_v36 : Ref sig .tc := ⟨.hbm, 76, rfl⟩
abbrev main_while0b_c_32 : Ref sig .tc := ⟨.hbm, 77, rfl⟩
abbrev main_while0b_c_33 : Ref sig .tc := ⟨.hbm, 78, rfl⟩
abbrev main_while0b_v37 : Ref sig .tc := ⟨.hbm, 79, rfl⟩
abbrev main_while0b_c_34 : Ref sig .tc := ⟨.hbm, 80, rfl⟩
abbrev main_while0b_v38 : Ref sig .tc := ⟨.hbm, 81, rfl⟩
abbrev main_while0b_c_35 : Ref sig .tc := ⟨.hbm, 82, rfl⟩
abbrev main_while0b_c_36 : Ref sig .tc := ⟨.hbm, 83, rfl⟩
abbrev main_while0b_v39 : Ref sig .tc := ⟨.hbm, 84, rfl⟩
abbrev main_while0b_c_37 : Ref sig .tc := ⟨.hbm, 85, rfl⟩
abbrev main_while0b_c_38 : Ref sig .tc := ⟨.hbm, 86, rfl⟩
abbrev main_while0b_v40 : Ref sig .tc := ⟨.hbm, 87, rfl⟩
abbrev main_while0b_c_39 : Ref sig .tc := ⟨.hbm, 88, rfl⟩
abbrev main_while0b_v41 : Ref sig .tc := ⟨.hbm, 89, rfl⟩
abbrev main_while0b_v42 : Ref sig .tc := ⟨.hbm, 90, rfl⟩
abbrev main_while0b_v43 : Ref sig .tc := ⟨.hbm, 91, rfl⟩
abbrev main_while0b_v44 : Ref sig .tc := ⟨.hbm, 92, rfl⟩
abbrev main_while0b_v45 : Ref sig .tc := ⟨.hbm, 93, rfl⟩
abbrev main_while0b_v46 : Ref sig .tc := ⟨.hbm, 94, rfl⟩
abbrev main_while0b_c_40 : Ref sig .tc := ⟨.hbm, 95, rfl⟩
abbrev main_while0b_v47 : Ref sig .tc := ⟨.hbm, 96, rfl⟩
abbrev main_while0b_c_41 : Ref sig .tc := ⟨.hbm, 97, rfl⟩
abbrev main_while0b_v48 : Ref sig .tc := ⟨.hbm, 98, rfl⟩
abbrev main_while0b_v49 : Ref sig .tc := ⟨.hbm, 99, rfl⟩
abbrev main_while0b_c_42 : Ref sig .tc := ⟨.hbm, 100, rfl⟩
abbrev main_while0b_c_43 : Ref sig .tc := ⟨.hbm, 101, rfl⟩
abbrev main_while0b_v50 : Ref sig .tc := ⟨.hbm, 102, rfl⟩
abbrev main_while0b_c_44 : Ref sig .tc := ⟨.hbm, 103, rfl⟩
abbrev main_while0b_c_45 : Ref sig .tc := ⟨.hbm, 104, rfl⟩
abbrev main_while0b_v51 : Ref sig .tc := ⟨.hbm, 105, rfl⟩
abbrev main_while0b_c_46 : Ref sig .tc := ⟨.hbm, 106, rfl⟩
abbrev main_while0b_v52 : Ref sig .tc := ⟨.hbm, 107, rfl⟩
abbrev main_while0b_v53 : Ref sig .tc := ⟨.hbm, 108, rfl⟩
abbrev main_while0b_v54 : Ref sig .tc := ⟨.hbm, 109, rfl⟩
abbrev main_while0b_v55 : Ref sig .tc := ⟨.hbm, 110, rfl⟩
abbrev main_while0b_c_47 : Ref sig .tc := ⟨.hbm, 111, rfl⟩
abbrev main_while0b_v56 : Ref sig .tc := ⟨.hbm, 112, rfl⟩
abbrev main_while0b_c_48 : Ref sig .tc := ⟨.hbm, 113, rfl⟩
abbrev main_while0b_v57 : Ref sig .tc := ⟨.hbm, 114, rfl⟩
abbrev main_while0b_v58 : Ref sig .tc := ⟨.hbm, 115, rfl⟩
abbrev main_while0b_v59 : Ref sig .tc := ⟨.hbm, 116, rfl⟩
abbrev main_while0b_v60 : Ref sig .tc := ⟨.hbm, 117, rfl⟩
abbrev main_while0b_v61 : Ref sig .tc := ⟨.hbm, 118, rfl⟩
abbrev main_while0b_v62 : Ref sig .tc := ⟨.hbm, 119, rfl⟩
abbrev main_while0b_c_49 : Ref sig .tc := ⟨.hbm, 120, rfl⟩
abbrev main_while0b_v63 : Ref sig .tc := ⟨.hbm, 121, rfl⟩
abbrev main_while0b_c_50 : Ref sig .tc := ⟨.hbm, 122, rfl⟩
abbrev main_while0b_v64 : Ref sig .tc := ⟨.hbm, 123, rfl⟩
abbrev main_while0b_v65 : Ref sig .tc := ⟨.hbm, 124, rfl⟩
abbrev main_while0b_v66 : Ref sig .tc := ⟨.hbm, 125, rfl⟩
abbrev main_while0b_v67 : Ref sig .tc := ⟨.hbm, 126, rfl⟩
abbrev main_while0b_c_51 : Ref sig .tc := ⟨.hbm, 127, rfl⟩
abbrev main_while0b_v68 : Ref sig .tc := ⟨.hbm, 128, rfl⟩

abbrev nD : Nat := 1
abbrev τ : Topo := Topo.v7x

variable {F : FTy → Type} [FloatOps F]

abbrev main_while0_count : Scf.Loop 32 := ⟨0#32, 256#32, 1#32⟩
-- ==== Proof.Content.lean ====
/-
# `Content`: devices, buffers and what they hold

The pure part of the exchange: which device a device sends to at each of the seven offsets, the block of the
receive buffer that belongs to each device, and the contents every device computes, sends and receives. Nothing
here mentions resources; it holds for any float values.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.ValueIdxCore
public import Idealize.ShloMosaic.Lib.Pipeline.ValueKit.Geometry

@[expose] public section

noncomputable section

namespace Cert.Moe

open Cert.KernelIdeal Cert.KernelIdeal.Gen
open Idealize.ShloMosaic Idealize.ShloMosaic.TcCoe Idealize.ShloMosaic.ValueIdx

variable {F : FTy → Type} [FloatOps F]

/-! ## The devices of the exchange -/

/-- The device `k + 1` places after `c`: the one `c` signals and sends to at its offset `k`. -/
def toward (c : Dev nD) (k : Fin 7) : Dev nD := ⟨(c.val + k.val + 1) % 8, Nat.mod_lt _ (by decide)⟩
/-- The device `k + 1` places before `c`: the one that signals and sends to `c` at its offset `k`. -/
def source (c : Dev nD) (k : Fin 7) : Dev nD := ⟨(c.val + 7 - k.val) % 8, Nat.mod_lt _ (by decide)⟩

theorem toward_source (c : Dev nD) (k : Fin 7) : toward (source c k) k = c := by revert c k; decide
theorem source_toward (c : Dev nD) (k : Fin 7) : source (toward c k) k = c := by revert c k; decide
/-- The sources of a device, by offset, are its targets in the opposite order. -/
theorem source_eq_toward_rev (c : Dev nD) (k : Fin 7) : source c k = toward c k.rev := by revert c k; decide
theorem toward_ne (c : Dev nD) (k : Fin 7) : toward c k ≠ c := by revert c k; decide
theorem toward_injective (c : Dev nD) : Function.Injective (toward c) := by revert c; decide
/-- Every device other than `c` is one of the seven `c` sends to. -/
theorem exists_toward (c d : Dev nD) (h : d ≠ c) : ∃ k, toward c k = d := by revert c d; decide

/-- At a fixed offset, sending permutes the devices. -/
def ringAt (k : Fin 7) : Dev nD ≃ Dev nD := ⟨fun c => toward c k, fun c => source c k, fun c => source_toward c k, fun c => toward_source c k⟩

theorem sig1_eq (c : Dev nD) : (⟨k0_dev1 c, k0_dev1_lt c⟩ : Dev nD) = toward c 0 := Fin.ext (k0_dev1_eq c)
theorem sig2_eq (c : Dev nD) : (⟨k0_dev2 c, k0_dev2_lt c⟩ : Dev nD) = toward c 1 := Fin.ext (k0_dev2_eq c)
theorem sig3_eq (c : Dev nD) : (⟨k0_dev3 c, k0_dev3_lt c⟩ : Dev nD) = toward c 2 := Fin.ext (k0_dev3_eq c)
theorem sig4_eq (c : Dev nD) : (⟨k0_dev4 c, k0_dev4_lt c⟩ : Dev nD) = toward c 3 := Fin.ext (k0_dev4_eq c)
theorem sig5_eq (c : Dev nD) : (⟨k0_dev5 c, k0_dev5_lt c⟩ : Dev nD) = toward c 4 := Fin.ext (k0_dev5_eq c)
theorem sig6_eq (c : Dev nD) : (⟨k0_dev6 c, k0_dev6_lt c⟩ : Dev nD) = toward c 5 := Fin.ext (k0_dev6_eq c)
theorem sig7_eq (c : Dev nD) : (⟨k0_dev7 c, k0_dev7_lt c⟩ : Dev nD) = toward c 6 := Fin.ext (k0_dev7_eq c)
theorem snd1_eq (c : Dev nD) : (⟨k0_dev8 c, k0_dev8_lt c⟩ : Dev nD) = toward c 0 := Fin.ext (k0_dev8_eq c)
theorem snd2_eq (c : Dev nD) : (⟨k0_dev9 c, k0_dev9_lt c⟩ : Dev nD) = toward c 1 := Fin.ext (k0_dev9_eq c)
theorem snd3_eq (c : Dev nD) : (⟨k0_dev10 c, k0_dev10_lt c⟩ : Dev nD) = toward c 2 := Fin.ext (k0_dev10_eq c)
theorem snd4_eq (c : Dev nD) : (⟨k0_dev11 c, k0_dev11_lt c⟩ : Dev nD) = toward c 3 := Fin.ext (k0_dev11_eq c)
theorem snd5_eq (c : Dev nD) : (⟨k0_dev12 c, k0_dev12_lt c⟩ : Dev nD) = toward c 4 := Fin.ext (k0_dev12_eq c)
theorem snd6_eq (c : Dev nD) : (⟨k0_dev13 c, k0_dev13_lt c⟩ : Dev nD) = toward c 5 := Fin.ext (k0_dev13_eq c)
theorem snd7_eq (c : Dev nD) : (⟨k0_dev14 c, k0_dev14_lt c⟩ : Dev nD) = toward c 6 := Fin.ext (k0_dev14_eq c)

/-! ## The buffers -/

abbrev xM : Memref sig .tc .vmem S256x128 .bf16 := Memref.whole cc0_stg0_0
abbrev iM : Memref sig .tc .vmem S256x1 .i32 := Memref.whole cc0_stg1_0
abbrev wM : Memref sig .tc .vmem S2x128x256 .bf16 := Memref.whole cc0_stg2_0
abbrev oM : Memref sig .tc .vmem S256x256 .f32 := Memref.whole cc0_stg3_0
abbrev sM : Memref sig .tc .vmem S24x256 .bf16 := Memref.whole cc0_scratch0
abbrev rM : Memref sig .tc .vmem S192x256 .bf16 := Memref.whole cc0_scratch1
/-- Device `d`'s block of the receive buffer: its 24 rows. -/
abbrev slotM (d : Dev nD) : Memref sig .tc .vmem S24x256 .bf16 :=
  rM.slice (Rect.unit (s := S192x256) (k0_off2 d) S24x256.size (k0_off2_inb d)) (fun _ => rfl)

/-- The elements of device `d`'s block. -/
abbrev slotSet (d : Dev nD) : Finset S192x256.Idx := (slotM d).view.set

theorem mem_slot (d : Dev nD) (i : S192x256.Idx) :
    i ∈ (slotM d).view.set ↔ 24 * d.val ≤ (i 0).val ∧ (i 0).val < 24 * d.val + 24 := by
  show i ∈ ((View.whole cc0_scratch1).slice (Rect.unit (s := S192x256) (k0_off2 d) S24x256.size (k0_off2_inb d))).set ↔ _
  rw [View.set_slice_whole]
  refine Rect.mem_set_unit.trans ?_
  rw [k0_off2_eq]
  constructor
  · intro h; exact h 0
  · intro h a
    match a with
    | ⟨0, _⟩ => exact h
    | ⟨1, _⟩ => exact ⟨Nat.zero_le _, by have := (i 1).isLt; show _ < 0 + 256; exact (Nat.zero_add 256).symm ▸ this⟩

/-- Two devices' blocks do not meet, -/
theorem slot_disjoint (d d' : Dev nD) (h : d ≠ d') : Disjoint (slotM d).view.set (slotM d').view.set := by
  rw [Finset.disjoint_left]
  intro i h1 h2
  have h1 := (mem_slot d i).mp h1
  have h2 := (mem_slot d' i).mp h2
  exact h (Fin.ext (by omega))

/-- The device whose block holds row `n` of the receive buffer. -/
def rowDev (n : ℕ) (h : n < 192) : Dev nD := ⟨n / 24, by show n / 24 < 8; omega⟩

/-- and together they are the buffer. -/
theorem slot_cover : (Finset.univ : Finset (Dev nD)).biUnion slotSet = Finset.univ := by
  ext i
  have hi : ((i : S192x256.Idx) 0).val < 192 := ((i : S192x256.Idx) 0).isLt
  have hm : i ∈ (slotM (rowDev _ hi)).view.set := by
    refine (mem_slot _ i).mpr ?_
    show 24 * (((i : S192x256.Idx) 0).val / 24) ≤ ((i : S192x256.Idx) 0).val ∧ ((i : S192x256.Idx) 0).val < 24 * (((i : S192x256.Idx) 0).val / 24) + 24
    omega
  exact ⟨fun _ => Finset.mem_univ _, fun _ => Finset.mem_biUnion.mpr ⟨_, Finset.mem_univ _, hm⟩⟩

/-! ## The contents -/

variable (m : (ℓ : Loc nD τ sig) → Buf (Elt F) ℓ)

/-- What device `c` is given: its copy of the tokens, of the chosen experts, and its two experts' matrices. -/
def xAt (c : Dev nD) : (cc0_stg0_0 : Ref sig .tc).ty.Contents (Elt F) :=
  (win0_0.blk (0 : Fin 1)).view.read (Elt F) (m ((c : Thread nD τ).loc main_arg0))
def iAt (c : Dev nD) : (cc0_stg1_0 : Ref sig .tc).ty.Contents (Elt F) :=
  (win0_1.blk (0 : Fin 1)).view.read (Elt F) (m ((c : Thread nD τ).loc main_arg2))
def wAt (c : Dev nD) : (cc0_stg2_0 : Ref sig .tc).ty.Contents (Elt F) :=
  (win0_2.blk (0 : Fin 1)).view.read (Elt F) (m ((c : Thread nD τ).loc main_arg3))

abbrev wr0 : Rect S2x128x256 := Rect.unit (s := S2x128x256) ![0, 0, 0] S1x128x256.size inb_S2x128x256_S1x128x256_0_0_0
abbrev wr1 : Rect S2x128x256 := Rect.unit (s := S2x128x256) ![1, 0, 0] S1x128x256.size inb_S2x128x256_S1x128x256_1_0_0

/-- The device's index as the kernel computes it. -/
abbrev myWord (c : Dev nD) : BitVec 32 := Scalar.remsi (Scalar.divsi (Dev.word c) 1#32) 8#32

/-- The gathered tokens of device `c`'s 24 places, before the experts. -/
def gathered (c : Dev nD) : FVec F S24x128 .f32 :=
  k0_pay6 (k0_pay2 (F := F) (iAt m c)) (k0_pay3 (F := F) (iAt m c)) (iota .tc S256x24 32 [1] iota_S256x24_d1_w32) (Scalar.muli (myWord c) 2#32) 12#32
    k0_pay4 k0_pay5 (Scalar.extui (Scalar.cmpi .sgt 12#32 0#32)) 0#32 (xAt m c)
def gatheredTop (c : Dev nD) : FVec F S12x128 .bf16 :=
  k0_pay7 (k0_pay2 (F := F) (iAt m c)) (k0_pay3 (F := F) (iAt m c)) (iota .tc S256x24 32 [1] iota_S256x24_d1_w32) (Scalar.muli (myWord c) 2#32) 12#32
    k0_pay4 k0_pay5 (Scalar.extui (Scalar.cmpi .sgt 12#32 0#32)) 0#32 (xAt m c)
/-- The two halves of the block device `c` computes: its first and its second expert's twelve rows. -/
def topAt (c : Dev nD) : FVec F S12x256 .bf16 :=
  k0_pay9 (gatheredTop m c) (k0_pay8 (wM.view.readAt (Elt F) wr0.toLoadRect (wAt m c)))
def botAt (c : Dev nD) : FVec F S12x256 .bf16 :=
  k0_pay10 (gathered m c) (wM.view.readAt (Elt F) wr1.toLoadRect (wAt m c))

/-- The block device `c` computes and sends. -/
def sendAt (c : Dev nD) : (cc0_scratch0 : Ref sig .tc).ty.Contents (Elt F) := fun (i : S24x256.Idx) =>
  if h : (i 0).val < 12 then topAt m c (ix2 ⟨(i 0).val, h⟩ (i 1))
  else botAt m c (ix2 ⟨(i 0).val - 12, by have : (i 0).val < 24 := (i 0).isLt; omega⟩ (i 1))

/-- The receive buffer after the exchange, the same on every device: each device's block in its place. -/
def recvAll : (cc0_scratch1 : Ref sig .tc).ty.Contents (Elt F) := fun (i : S192x256.Idx) =>
  sendAt m (rowDev (i 0).val (i 0).isLt) (ix2 (n0 := 24) (n1 := 256) ⟨(i 0).val % 24, Nat.mod_lt _ (by decide)⟩ (i 1))

/-- The combining matrix of device `c`. -/
def combAt (c : Dev nD) : FVec F S256x192 .bf16 :=
  k0_pay20 (k0_pay2 (F := F) (iAt m c)) (k0_pay3 (F := F) (iAt m c))
    (k0_pay16 k0_pay12 (Scalar.select (Scalar.cmpi .eq 24#32 0#32) 1#32 24#32) k0_pay13 k0_pay14 k0_pay15
      (Scalar.cmpi .slt (Scalar.select (Scalar.cmpi .eq 24#32 0#32) 1#32 24#32) 0#32))
    (k0_pay17 (iota .tc S256x192 32 [1] iota_S256x192_d1_w32))
    (k0_pay18 (iota .tc S256x192 32 [1] iota_S256x192_d1_w32))
    (k0_pay19 (iota .tc S256x192 32 [1] iota_S256x192_d1_w32))
/-- The kernel's result on device `c`. -/
def outAt (c : Dev nD) : (cc0_stg3_0 : Ref sig .tc).ty.Contents (Elt F) := k0_pay1 (combAt m c) (recvAll m)

/-! ## Reads and writes of these contents -/

theorem hz2 : (![0, 0] : Fin 2 → Nat) = fun _ => 0 := funext fun a => by fin_cases a <;> rfl

abbrev sr0 : Rect S24x256 := Rect.unit (s := S24x256) ![0, 0] S12x256.size inb_S24x256_S12x256_0_0
abbrev sr1 : Rect S24x256 := Rect.unit (s := S24x256) ![12, 0] S12x256.size inb_S24x256_S12x256_12_0

/-- The two stores of the halves leave the block in the send buffer, whatever was there. -/
theorem write_halves (c : Dev nD) (f : (cc0_scratch0 : Ref sig .tc).ty.Contents (Elt F)) :
    (sM.access sr1 : View sig .tc _ _ _).write (Elt F) ((sM.access sr0 : View sig .tc _ _ _).write (Elt F) f (topAt m c) Finset.univ) (botAt m c) Finset.univ
      = sendAt m c := by
  funext (i : S24x256.Idx)
  have hi0 : (i 0).val < 24 := (i 0).isLt
  by_cases h : (i 0).val < 12
  · have e : i = (sM.access sr0).emb (ix2 (n0 := 12) (n1 := 256) ⟨(i 0).val, h⟩ (i 1)) := by
      funext a
      refine Fin.ext ?_
      refine (Eq.trans ?_ (ValueKit.view_emb_slice_whole_unit_val cc0_scratch0 ![0, 0] S12x256.size inb_S24x256_S12x256_0_0 _ a).symm)
      match a with
      | ⟨0, _⟩ => exact (Nat.zero_add _).symm
      | ⟨1, _⟩ => exact (Nat.zero_add _).symm
    rw [View.write_of_not_mem]
    · rw [show sendAt m c i = topAt m c (ix2 ⟨(i 0).val, h⟩ (i 1)) from dif_pos h]
      conv_lhs => rw [e]
      exact View.write_emb_of_mem (v := sM.access sr0) f (topAt m c) (Finset.mem_univ _)
    · intro hm
      have hm : i ∈ ((View.whole cc0_scratch0).slice sr1).set := hm
      rw [View.set_slice_whole] at hm
      have := (Rect.mem_set_unit.mp hm 0).1
      have : 12 ≤ (i 0).val := this
      omega
  · have e : i = (sM.access sr1).emb (ix2 (n0 := 12) (n1 := 256) ⟨(i 0).val - 12, by omega⟩ (i 1)) := by
      funext a
      refine Fin.ext ?_
      refine (Eq.trans ?_ (ValueKit.view_emb_slice_whole_unit_val cc0_scratch0 ![12, 0] S12x256.size inb_S24x256_S12x256_12_0 _ a).symm)
      match a with
      | ⟨0, _⟩ => show (i 0).val = 12 + ((i 0).val - 12); omega
      | ⟨1, _⟩ => exact (Nat.zero_add _).symm
    rw [show sendAt m c i = botAt m c (ix2 ⟨(i 0).val - 12, by omega⟩ (i 1)) from dif_neg h]
    conv_lhs => rw [e]
    exact View.write_emb_of_mem (Val := Elt F) (v := sM.access sr1) _ (botAt m c) (Finset.mem_univ _)

/-- Row `24 d + r` of the receive buffer is row `r` of device `d`'s block. -/
theorem recvAll_at (d : Dev nD) (j : S24x256.Idx) (i : S192x256.Idx) (h0 : (i 0).val = 24 * d.val + (j 0).val) (h1 : (i 1).val = (j 1).val) :
    recvAll m i = sendAt m d j := by
  have hj : (j 0).val < 24 := (j 0).isLt
  have hd : rowDev (i 0).val (i 0).isLt = d := Fin.ext (by show (i 0).val / 24 = d.val; omega)
  have hx : (ix2 (n0 := 24) (n1 := 256) ⟨(i 0).val % 24, Nat.mod_lt _ (by decide)⟩ (i 1) : S24x256.Idx) = j := by
    funext a
    match a with
    | ⟨0, _⟩ => exact Fin.ext (by show (i 0).val % 24 = (j 0).val; omega)
    | ⟨1, _⟩ => exact Fin.ext h1
  unfold recvAll
  rw [hd, hx]

/-- A block written into device `d`'s rows is, on those rows, what the exchange leaves there. -/
theorem write_slot (d : Dev nD) (fd : (cc0_scratch1 : Ref sig .tc).ty.Contents (Elt F)) (i : S192x256.Idx) (hi : i ∈ (slotM d).view.set) :
    (slotM d).view.write (Elt F) fd (sendAt m d : S24x256.Idx → Elt F .bf16) Finset.univ i = recvAll m i := by
  obtain ⟨j, -, rfl⟩ := Finset.mem_map.mp hi
  have h0 : ((slotM d).view.emb j 0 : ℕ) = 24 * d.val + (j 0).val :=
    (ValueKit.view_emb_slice_whole_unit_val cc0_scratch1 (k0_off2 d) S24x256.size (k0_off2_inb d) j 0).trans (congrArg (· + (j 0).val) (congrFun (k0_off2_eq d) 0))
  have h1 : ((slotM d).view.emb j 1 : ℕ) = (j 1).val :=
    (ValueKit.view_emb_slice_whole_unit_val cc0_scratch1 (k0_off2 d) S24x256.size (k0_off2_inb d) j 1).trans ((congrArg (· + (j 1).val) (congrFun (k0_off2_eq d) 1)).trans (Nat.zero_add _))
  refine (View.write_emb_of_mem (v := (slotM d).view) fd (sendAt m d : S24x256.Idx → Elt F .bf16) (Finset.mem_univ j)).trans ?_
  exact (recvAll_at m d j _ h0 h1).symm

theorem read_x (f : (cc0_stg0_0 : Ref sig .tc).ty.Contents (Elt F)) :
    xM.view.readAt (Elt F) (Rect.unit (s := S256x128) ![0, 0] S256x128.size inb_S256x128_S256x128_0_0).toLoadRect f = f :=
  Memref.readAt_unit_zero (Elt F) cc0_stg0_0 hz2 _ f
theorem read_i (f : (cc0_stg1_0 : Ref sig .tc).ty.Contents (Elt F)) :
    iM.view.readAt (Elt F) (Rect.unit (s := S256x1) ![0, 0] S256x1.size inb_S256x1_S256x1_0_0).toLoadRect f = f :=
  Memref.readAt_unit_zero (Elt F) cc0_stg1_0 hz2 _ f
theorem read_s (f : (cc0_scratch0 : Ref sig .tc).ty.Contents (Elt F)) :
    sM.view.readAt (Elt F) (Rect.unit (s := S24x256) ![0, 0] S24x256.size inb_S24x256_S24x256_0_0).toLoadRect f = f :=
  Memref.readAt_unit_zero (Elt F) cc0_scratch0 hz2 _ f
theorem read_r (f : (cc0_scratch1 : Ref sig .tc).ty.Contents (Elt F)) :
    rM.view.readAt (Elt F) (Rect.unit (s := S192x256) ![0, 0] S192x256.size inb_S192x256_S192x256_0_0).toLoadRect f = f :=
  Memref.readAt_unit_zero (Elt F) cc0_scratch1 hz2 _ f
theorem write_o (f w : (cc0_stg3_0 : Ref sig .tc).ty.Contents (Elt F)) :
    (oM.access (Rect.unit (s := S256x256) ![0, 0] S256x256.size inb_S256x256_S256x256_0_0) : View sig .tc _ _ _).write (Elt F) f w Finset.univ = w :=
  Memref.write_access_unit_zero_univ (Elt F) cc0_stg3_0 hz2 _ f w

end Cert.Moe

end
-- ==== Proof.Proto.lean ====
/-
# `Proto`: the protocol of the exchange

Seven rounds of signals and seven blocks per device, stated as one round of the rounds library per cell. A duty is
named by the OFFSET at which it is paid: duty `k` of a cell of device `c` is paid by `source c k`.

* the barrier cell of `c`: duty `k` is one unit, and hands `c` the block of `source c k`'s receive buffer that `c` will
  write;
* the receive cell of `c`: duty `k` is one block's credit, and hands `c` its own rows of `source c k`, holding that
  device's block;
* the send cell of `c`: duty `k` is one block's credit, and hands back the `k`-th share of `c`'s send buffer.
-/
module

public import proofs.«01_k».proof.Proof.Content
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.SparseCore.Stream

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- One block's credit. -/
def N : ℕ := (sM : Memref sig .tc .vmem S24x256 .bf16).view.dmaCredit
theorem N_pos : 0 < N := View.dmaCredit_pos _ (by decide)
theorem credit_send : (sM : Memref sig .tc .vmem S24x256 .bf16).view.dmaCredit = N := rfl
theorem credit_slot (d : Dev nD) : (slotM d).view.dmaCredit = N := rfl

/-! ## What the cells hand over -/

/-- Device `c`'s block `d` of its receive buffer, at contents `f`. -/
def slotPts (c d : Dev nD) (f : Buf (Elt F) ((slotM d).view.loc (c : Thread nD τ))) : sProp 𝕄 :=
  (slotM d).view.loc (c : Thread nD τ) ↦[(slotM d).view.set]{fullShare} f
/-- The `k`-th of seven equal shares of the whole. -/
abbrev shareAt (k : Fin 7) : PosShare TreeShare := pieceOf fullShare 7 (by decide) k
/-- That share of device `c`'s send buffer, holding its block. -/
def sendPts (c : Dev nD) (k : Fin 7) : sProp 𝕄 :=
  sM.view.loc (c : Thread nD τ) ↦[sM.view.set]{shareAt k} sendAt m c

omit [FloatOps F] in
instance slotPts_storable (c d : Dev nD) (f) : BI.Storable (upEmb : UEmb _ 𝕄) (slotPts (F := F) c d f) := by unfold slotPts; infer_instance
instance sendPts_storable (c : Dev nD) (k : Fin 7) : BI.Storable (upEmb : UEmb _ 𝕄) (sendPts (F := F) m c k) := by unfold sendPts; infer_instance

def barPay (c : Dev nD) (k : Fin 7) : sProp 𝕄 := iprop(∃ f, slotPts (source c k) c f)
def recvPay (c : Dev nD) (k : Fin 7) : sProp 𝕄 := slotPts c (source c k) (recvAll m)

/-! ## The schedule -/

abbrev IsCell (g : GSem nD τ sig) : Prop := g.1.2 = .tc ∧ (g.2 = .reg barS ∨ g.2 = .dma sendS.sem ∨ g.2 = .dma recvS.sem)

/-- One round: every cell of the protocol has the seven duties, named by the offset. -/
def sched : Rounds.Schedule (GSem nD τ sig) (Fin 7) 𝕄 where
  duties g r := if r = 0 ∧ IsCell g then Finset.univ else ∅
  unitless _ := False
  amount g _ _ := if g.2 = .reg barS then 1 else N
  payload g _ k :=
    if g.2 = .reg barS then barPay g.1.1 k
    else if g.2 = .dma recvS.sem then recvPay m g.1.1 k
    else if g.2 = .dma sendS.sem then sendPts m g.1.1 k
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 7) :
    BI.Storable (upEmb : UEmb _ 𝕄) ((sched (F := F) m).payload g r d) := by
  show BI.Storable upEmb (if g.2 = .reg barS then barPay g.1.1 d else if g.2 = .dma recvS.sem then recvPay m g.1.1 d
    else if g.2 = .dma sendS.sem then sendPts m g.1.1 d else iprop(emp))
  unfold barPay recvPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide

theorem duties_of {g : GSem nD τ sig} (h : IsCell g) : (sched (F := F) m).duties g 0 = Finset.univ := if_pos ⟨rfl, h⟩
theorem isCell_bar : IsCell (barCell c) := ⟨rfl, .inl rfl⟩
theorem isCell_send : IsCell (sendCell c) := ⟨rfl, .inr (.inl rfl)⟩
theorem isCell_recv : IsCell (recvCell c) := ⟨rfl, .inr (.inr rfl)⟩
theorem duties_later (g : GSem nD τ sig) : ∀ r, 1 ≤ r → (sched (F := F) m).duties g r = ∅ :=
  fun r hr => if_neg fun h => by have := h.1; omega

theorem amount_bar (d : Fin 7) : (sched (F := F) m).amount (barCell c) 0 d = 1 := by unfold sched; dsimp only; rw [if_pos rfl]
theorem amount_send (d : Fin 7) : (sched (F := F) m).amount (sendCell c) 0 d = N := by unfold sched; dsimp only; rw [if_neg send_ne_bar]
theorem amount_recv (d : Fin 7) : (sched (F := F) m).amount (recvCell c) 0 d = N := by unfold sched; dsimp only; rw [if_neg recv_ne_bar]

theorem expect_of {g : GSem nD τ sig} (h : IsCell g) {a : ℕ} (ha : ∀ d, (sched (F := F) m).amount g 0 d = a) :
    (sched (F := F) m).expect g 0 = 7 * a := by
  unfold Schedule.expect Schedule.amountOf
  rw [duties_of m h, Finset.sum_congr rfl fun d _ => ha d, Finset.sum_const, Finset.card_univ, Fintype.card_fin, smul_eq_mul]

theorem payload_bar (d : Fin 7) : (sched (F := F) m).payload (barCell c) 0 d = barPay c d := by unfold sched; dsimp only; rw [if_pos rfl]
theorem payload_recv (d : Fin 7) : (sched (F := F) m).payload (recvCell c) 0 d = recvPay m c d := by
  unfold sched; dsimp only; rw [if_neg recv_ne_bar, if_pos rfl]
theorem payload_send (d : Fin 7) : (sched (F := F) m).payload (sendCell c) 0 d = sendPts m c d := by
  unfold sched; dsimp only; rw [if_neg send_ne_bar, if_neg send_ne_recv, if_pos rfl]

end Sched

/-! ## What each device owes at launch, in the order it pays -/

/-- The seven offsets, in program order. -/
abbrev offsets : List (Fin 7) := [0, 1, 2, 3, 4, 5, 6]

/-- The blocks still to be sent, at the offsets listed. -/
def oweR (c : Dev nD) : List (Fin 7) → CellTallies nD τ sig Unit
  | [] => 0
  | k :: ks => oweR c ks + tallyAt (recvCell (toward c k)) () N
/-- The signals still to be given at the offsets listed, and every block. -/
def oweB (c : Dev nD) : List (Fin 7) → CellTallies nD τ sig Unit
  | [] => oweR c offsets
  | k :: ks => oweB c ks + tallyAt (barCell (toward c k)) () 1

theorem oweR_pos {c : Dev nD} {g : GSem nD τ sig} {u : Unit} : ∀ {ks : List (Fin 7)}, 0 < oweR c ks g u → ∃ d, g = recvCell d
  | [], h => absurd h (Nat.lt_irrefl 0)
  | k :: ks, h => by
    unfold oweR at h
    rw [Pi.add_apply, Finsupp.add_apply, tallyAt_apply] at h
    by_cases hg : g = recvCell (toward c k) ∧ u = ()
    · exact ⟨_, hg.1⟩
    · rw [if_neg hg, Nat.add_zero] at h; exact oweR_pos h
theorem oweB_pos {c : Dev nD} {g : GSem nD τ sig} {u : Unit} : ∀ {ks : List (Fin 7)}, 0 < oweB c ks g u → ∃ d, g = recvCell d ∨ g = barCell d
  | [], h => (oweR_pos (c := c) (ks := offsets) h).imp fun _ => Or.inl
  | k :: ks, h => by
    unfold oweB at h
    rw [Pi.add_apply, Finsupp.add_apply, tallyAt_apply] at h
    by_cases hg : g = barCell (toward c k) ∧ u = ()
    · exact ⟨_, .inr hg.1⟩
    · rw [if_neg hg, Nat.add_zero] at h; exact oweB_pos h

/-! ## The levels -/

def L (g : GSem nD τ sig) : Finset Unit := if g.1.2 = .tc then {()} else ∅
/-- barrier cells at 1, receive cells at 2, every other cell at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) : lv (recvCell c) () = 2 := (if_neg recv_ne_bar).trans (if_pos rfl)

omit [FloatOps F] in
/-- A device may wait on a staging cell owing everything, or nothing. -/
theorem mayWait_stage (c : Dev nD) (q : DmaSem sig) (hq : SemLoc.dma q ≠ .dma recvS.sem) (O : CellTallies nD τ sig Unit)
    (hO : O = oweB c offsets ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, rfl | rfl⟩ := oweB_pos hg <;> exact Finset.mem_singleton_self _)
      (fun p hp => by rw [Finset.mem_singleton.mp hp]; dsimp only [lv]; rw [if_neg (fun h => by cases h), if_neg hq])
      (fun g u hg => by
        obtain ⟨d, rfl | rfl⟩ := oweB_pos hg
        · rw [show lv (recvCell d) u = 2 from lv_recv d]; decide
        · rw [show lv (barCell d) u = 1 from lv_bar d]; decide)
  · rw [MayWait_zero]; iintro -; iempintro

omit [FloatOps F] in
/-- At its barrier wait a device owes blocks only, and receive cells are above barrier cells. -/
theorem mayWait_bar (c : Dev nD) :
    (levAts L lv : sProp 𝕄) ⊢ MayWait (c : Thread nD τ) (.reg barS) () (oweR c offsets) :=
  MayOwe.of_cut (L := L) (lev := lv) 1 (fun p hp => by rw [Finset.mem_singleton.mp hp, L_tc]; exact Finset.mem_singleton_self _)
    (fun g u hg => by obtain ⟨d, rfl⟩ := oweR_pos hg; exact Finset.mem_singleton_self _)
    (fun p hp => by rw [Finset.mem_singleton.mp hp]; exact le_of_eq (lv_bar c))
    (fun g u hg => by
      obtain ⟨d, rfl⟩ := oweR_pos hg
      rw [show lv (recvCell d) u = 2 from lv_recv d]; decide)

/-! ## The persistent records -/

/-- Every cell's invariant, under the names `K`, and that every cell has reached its round. -/
def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records m K) := by unfold records; infer_instance

theorem inv_of (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
omit [FloatOps F] in
theorem reached_of (ck : Dev nD × Fin 3) :
    (bigSep Finset.univ fun ck : Dev nD × Fin 3 => (reached ER (kcell ck) 0 : sProp 𝕄)) ⊢ reached ER (kcell ck) 0 :=
  bigSep_elim (Finset.mem_univ ck)

theorem inv_at (K : Dev nD × Fin 3 → ℕ) (ck : Dev nD × Fin 3) : records m K ⊢ cellInv ER (sched m) (K ck) (kcell ck) := by
  unfold records
  iintro ⟨H, -⟩
  iapply (inv_of m K ck)
  iexact H
theorem reached_at (K : Dev nD × Fin 3 → ℕ) (ck : Dev nD × Fin 3) : records m K ⊢ reached ER (kcell ck) 0 := by
  unfold records
  iintro ⟨-, H⟩
  iapply (reached_of (F := F) ck)
  iexact H

end Cert.Moe

end
-- ==== Proof.Steps.lean ====
/-
# `Steps`: the seven signals, the seven transfers and the waits, one lemma each

Each step is stated over the list of offsets still to do, so the body applies the same lemma seven times.
-/
module

public import proofs.«01_k».proof.Proof.Proto

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Fin 3 → ℕ)

/-! ## A resource per offset -/

/-- One of `Φ` for each offset of the list. -/
def each (Φ : Fin 7 → sProp 𝕄) : List (Fin 7) → sProp 𝕄
  | [] => iprop(emp)
  | k :: ks => iprop(Φ k ∗ each Φ ks)

omit [FloatOps F] in
theorem each_offsets (Φ : Fin 7 → sProp 𝕄) : bigSep Finset.univ Φ = each Φ offsets := by
  rw [bigSep_univ_eq_bigSepL offsets (by decide) (by decide)]
  simp only [each]
  exact congrArg (fun R => iprop(Φ 0 ∗ Φ 1 ∗ Φ 2 ∗ Φ 3 ∗ Φ 4 ∗ Φ 5 ∗ R)) (sep_emp_eq (Φ 6)).symm

omit [FloatOps F] in
/-- The duties already seen and the others are all. -/
theorem join_rest {s t : Finset (Fin 7)} (h : t ⊆ s) (Φ : Fin 7 → sProp 𝕄) :
    iprop(bigSep t Φ ∗ bigSep (s \ t) Φ) ⊢ bigSep s Φ := Entails.of_eq (BI.bigSep_sdiff_split h).symm

/-- `n` credits of one block at the cell `g`. -/
def creds (g : GSem nD τ sig) : ℕ → sProp 𝕄
  | 0 => iprop(emp)
  | n + 1 => iprop(cred (tallyAt g () N) ∗ creds g n)

/-- Device `c` owes `O`, whatever it has waited for. -/
def owing (c : Dev nD) (O : CellTallies nD τ sig Unit) : sProp 𝕄 := iprop(∃ W, owes (c : Thread nD τ) O W)

/-! ## A signal -/

/-- What the signal at offset `k` takes: its duty, and the block of `c`'s receive buffer it hands over. -/
def sigRes (c : Dev nD) (k : Fin 7) : sProp 𝕄 :=
  iprop(dutyTok ER (barCell (toward c k)) 0 k ∗ ∃ f, slotPts c (toward c k) f)

/-- The signal at offset `k`: one unit less owed, the duty's resources handed over. -/
theorem step_signal (c n : Dev nD) (k : Fin 7) (ks : List (Fin 7)) (hn : n = toward c k)
    {α : Type} {Q : α → sProp 𝕄} {kont : PUnit → Prog (TpuEff nD τ sig (Elt F) Λ₀ .tc) α} :
    iprop(records m K ∗ owing c (oweB c (k :: ks)) ∗ each (sigRes c) (k :: ks))
      ⊢ iprop((owing c (oweB c ks) ∗ each (sigRes c) ks -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal (n : Thread nD τ) barS (1#32 : BitVec 32).toInt) kont) Q) := by
  subst hn
  unfold owing
  simp only [each]
  unfold sigRes
  iintro ⟨#HR, ⟨%W, HO⟩, ⟨Ht, ⟨%f, Hs⟩⟩, Hrest⟩ Hk
  iapply (Rounds.wp_signal 𝒱₀ ER (sched m) (c : Thread nD τ) none (dst := (toward c k : Thread nD τ)) (κ := K (toward c k, 0))
      (d := k) (by rw [duties_of m (isCell_bar _)]; exact Finset.mem_univ _) ((amount_bar m (toward c k) k).trans (by decide)) () (oweB c ks) rfl)
    $$ [HO Ht Hs]
  · isplitr; · iapply (inv_at m K (toward c k, 0)); iexact HR
    isplitl [HO]; · iexact HO
    isplitl [Ht]; · iexact Ht
    isplitl [Hs]
    · rw [payload_bar]; unfold barPay; rw [source_toward]; iexists f; iexact Hs
    · iapply (reached_at m K (toward c k, 0)); iexact HR
  iintro HO
  iapply Hk
  isplitl [HO]; · iexists W; iexact HO
  iexact Hrest

/-! ## A transfer -/

/-- What the transfer at offset `k` takes: its two duties, a share of the send buffer, and the block it writes. -/
def sendRes (c : Dev nD) (k : Fin 7) : sProp 𝕄 :=
  iprop(dutyTok ER (sendCell c) 0 k ∗ dutyTok ER (recvCell (toward c k)) 0 k ∗ sendPts m c k ∗ ∃ f, slotPts (toward c k) c f)

/-- The transfer at offset `k`: one block less owed, one block's credit on the send cell gained. -/
theorem step_send (c n : Dev nD) (k : Fin 7) (ks : List (Fin 7)) (j : ℕ) (hn : n = toward c k)
    {hsc : (slotM c : Memref sig (Dev.tc n : Thread nD τ).2.kind .vmem S24x256 .bf16).view.ref.isScScratch = false}
    {hsrc : (sM : Memref sig .tc .vmem S24x256 .bf16).view.WordExact} {hdst : (slotM c : Memref sig .tc .vmem S24x256 .bf16).view.WordExact}
    {hsem : DmaTarget.Typed .vmem (.dma recvS.sem) (.remote (Dev.tc n : Thread nD τ) (slotM c : Memref sig .tc .vmem S24x256 .bf16) (.dma sendS.sem) hsc)}
    {α : Type} {Q : α → sProp 𝕄} {kont : PUnit → Prog (TpuEff nD τ sig (Elt F) Λ₀ .tc) α} :
    iprop(records m K ∗ owing c (oweR c (k :: ks)) ∗ creds (sendCell c) j ∗ each (sendRes m c) (k :: ks))
      ⊢ iprop((owing c (oweR c ks) ∗ creds (sendCell c) (j + 1) ∗ each (sendRes m c) ks
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma sM (.remote (Dev.tc n : Thread nD τ) (slotM c) (.dma sendS.sem) hsc) (.dma recvS.sem) hsrc hdst hsem) kont) Q) := by
  subst hn
  unfold owing
  simp only [each, creds]
  unfold sendRes sendPts slotPts
  iintro ⟨#HR, ⟨%W, HO⟩, Hc, ⟨HtS, HtR, Hsrc, ⟨%fd, Hdst⟩⟩, Hrest⟩ Hk
  iapply (Rounds.wp_send_pointsTo 𝒱₀ ER (sched m) (c : Thread nD τ) none (κ₁ := K (c, 1)) (κ₂ := K (toward c k, 2))
    (r₁ := 0) (r₂ := 0) (d₁ := k) (d₂ := k) (fd := fd)
    (by rw [duties_of m (isCell_send c)]; exact Finset.mem_univ _) (by rw [duties_of m (isCell_recv _)]; exact Finset.mem_univ _)
    () () N rfl (amount_send m c k) (amount_recv m (toward c k) k) (oweR c ks) rfl (W := W)
    (by rw [payload_send]; exact BI.Entails.refl _)
    (by
      rw [payload_recv]; unfold recvPay slotPts; rw [source_toward]
      exact Entails.of_eq (pointsTo_congr fun i hi => by rw [View.read_whole]; exact write_slot m c fd i hi)))
    $$ [HO HtS HtR Hsrc Hdst]
  · isplitr; · iapply (inv_at m K (c, 1)); iexact HR
    isplitr; · iapply (inv_at m K (toward c k, 2)); iexact HR
    isplitl [Hsrc]; · iexact Hsrc
    isplitl [Hdst]; · iexact Hdst
    isplitl [HO]; · iexact HO
    isplitl [HtS]; · iexact HtS
    isplitr; · iapply (reached_at m K (c, 1)); iexact HR
    isplitl [HtR]; · iexact HtR
    iapply (reached_at m K (toward c k, 2)); iexact HR
  iintro ⟨Hcr, HO⟩
  iapply Hk
  isplitl [HO]; · iexists W; iexact HO
  isplitl [Hc Hcr]
  · isplitl [Hcr] <;> iassumption
  iexact Hrest

/-! ## A wait for one block -/

/-- `j` blocks of the round of the cell `g` waited for: the duties seen to be in, and what they handed over. -/
def partway (g : GSem nD τ sig) (j : ℕ) : sProp 𝕄 :=
  iprop(∃ T : Finset (Fin 7), atPos ER g 0 T (j * N) ∗ bigSep T (fun d => (sched m).payload g 0 d))

omit [FloatOps F] in
theorem cred_single (g : GSem nD τ sig) (n : ℕ) : (cred (tallyAt g () n) : sProp 𝕄) = cred (tallyOn g (Finsupp.single () n)) := rfl

/-- A wait for one block that is not the last. -/
theorem step_wait (c : Dev nD) (sm : SemLoc sig) (n j : ℕ) (κ : ℕ)
    {w : TpuEff nD τ sig (Elt F) Λ₀ .tc PUnit}
    (hw : ∀ X : PUnit → sProp 𝕄, wpE' (defs₀ (F := F)) 𝒱₀ (c : Thread nD τ) none [] Set.univ w X = waitSpec (c : Thread nD τ) Set.univ sm N X)
    {α : Type} {Q : α → sProp 𝕄} {kont : PUnit → Prog (TpuEff nD τ sig (Elt F) Λ₀ .tc) α} :
    iprop(cellInv ER (sched m) κ ((c : Thread nD τ), sm) ∗ owing c 0 ∗ creds ((c : Thread nD τ), sm) (n + 1) ∗ partway m ((c : Thread nD τ), sm) j)
      ⊢ iprop((owing c 0 ∗ creds ((c : Thread nD τ), sm) n ∗ partway m ((c : Thread nD τ), sm) (j + 1)
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  unfold owing partway
  simp only [creds]
  iintro ⟨#HI, ⟨%W, HO⟩, ⟨Hc, Hcs⟩, ⟨%T, Hat, Hpay⟩⟩ Hk
  iapply (Rounds.wp_wait 𝒱₀ ER (sched m) (c : Thread nD τ) none hw (Set.mem_univ κ) (cr := Finsupp.single () N) (O := 0) (W := W) {(sm, ())}
      (R := 0) (m := j * N) (T := T) (by rw [Util.total_single]) (image_single_subset sm () N)) $$ [HO Hc Hat]
  · isplitr; · iexact HI
    isplitl [Hc]; · iexact Hc
    isplitl [HO]; · iexact HO
    isplitr; · iapply (Entails.of_eq (MayWait_zero (c : Thread nD τ) sm ()).symm); iempintro
    iexact Hat
  iintro %S ⟨%hS, HO, Hat, Hnew⟩
  iapply Hk
  isplitl [HO]; · iexists _; iexact HO
  isplitl [Hcs]; · iexact Hcs
  iexists S
  isplitl [Hat]; · rw [Nat.succ_mul]; iexact Hat
  iapply (join_rest hS.1 fun d => (sched m).payload ((c : Thread nD τ), sm) 0 d)
  isplitl [Hpay] <;> iassumption

/-- The last wait of a round of seven blocks: every duty's resources are there. -/
theorem step_wait_last (c : Dev nD) (sm : SemLoc sig) (κ : ℕ) (hc : IsCell ((c : Thread nD τ), sm))
    (ha : ∀ d, (sched (F := F) m).amount ((c : Thread nD τ), sm) 0 d = N)
    {w : TpuEff nD τ sig (Elt F) Λ₀ .tc PUnit}
    (hw : ∀ X : PUnit → sProp 𝕄, wpE' (defs₀ (F := F)) 𝒱₀ (c : Thread nD τ) none [] Set.univ w X = waitSpec (c : Thread nD τ) Set.univ sm N X)
    {α : Type} {Q : α → sProp 𝕄} {kont : PUnit → Prog (TpuEff nD τ sig (Elt F) Λ₀ .tc) α} :
    iprop(cellInv ER (sched m) κ ((c : Thread nD τ), sm) ∗ owing c 0 ∗ creds ((c : Thread nD τ), sm) 1 ∗ partway m ((c : Thread nD τ), sm) 6)
      ⊢ iprop((owing c 0 ∗ atPos ER ((c : Thread nD τ), sm) 1 ∅ 0 ∗ bigSep Finset.univ (fun d => (sched m).payload ((c : Thread nD τ), sm) 0 d)
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  unfold owing partway
  simp only [creds]
  iintro ⟨#HI, ⟨%W, HO⟩, ⟨Hc, -⟩, ⟨%T, Hat, Hpay⟩⟩ Hk
  iapply (Rounds.wp_wait_rest_token 𝒱₀ ER (sched m) (c : Thread nD τ) none (κ := κ) hw (Set.mem_univ _) () (O := 0) (W := W) (R := 0) (m := 6 * N) (T := T)
      (by rw [expect_of m hc ha]; omega)) $$ [HO Hc Hat]
  · isplitr; · iexact HI
    isplitl [Hc]; · iexact Hc
    isplitl [HO]; · iexact HO
    isplitr; · rw [MayWait_zero]; iempintro
    iexact Hat
  iintro ⟨HO, Hat, -, Hnew⟩
  iapply Hk
  isplitl [HO]; · iexists _; iexact HO
  isplitl [Hat]; · iexact Hat
  rw [duties_of m hc]
  iapply (join_rest (Finset.subset_univ T) fun d => (sched m).payload ((c : Thread nD τ), sm) 0 d)
  isplitl [Hpay] <;> iassumption

end Cert.Moe

end
-- ==== Proof.Split.lean ====
/-
# `Split`: the send and the receive buffer in pieces

The receive buffer is eight blocks, one per device; the send buffer is seven equal shares of itself.
-/
module

public import proofs.«01_k».proof.Proof.Steps

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The two buffers in pieces -/

/-- Device `c`'s whole send buffer, and its whole receive buffer. -/
def sPts (c : Dev nD) (f : Buf (Elt F) ((c : Thread nD τ).loc cc0_scratch0)) : sProp 𝕄 := ((c : Thread nD τ).loc cc0_scratch0) ↦{fullShare} f
def rPts (c : Dev nD) (f : Buf (Elt F) ((c : Thread nD τ).loc cc0_scratch1)) : sProp 𝕄 := ((c : Thread nD τ).loc cc0_scratch1) ↦{fullShare} f

theorem others_eq (c : Dev nD) : (Finset.univ : Finset (Dev nD)).erase c = Finset.univ.map ⟨toward c, toward_injective c⟩ := by
  revert c; decide

omit [FloatOps F] in
/-- The receive buffer is the device's own block and the blocks of the seven devices it sends to. -/
theorem rPts_blocks (c : Dev nD) (f : Buf (Elt F) ((c : Thread nD τ).loc cc0_scratch1)) :
    rPts c f = iprop(slotPts c c f ∗ bigSep Finset.univ fun k : Fin 7 => slotPts c (toward c k) f) := by
  have h : rPts (F := F) c f = bigSep Finset.univ fun d : Dev nD => slotPts c d f :=
    Ring.pointsTo_blocks (ℓ := (c : Thread nD τ).loc cc0_scratch1) slotSet slot_disjoint slot_cover f
  rw [h, BI.bigSep_univ_split c, others_eq, bigSep_map]
  rfl

omit [FloatOps F] in
/-- The same by source: the blocks of the seven devices it receives from. -/
theorem rPts_sources (c : Dev nD) (f : Buf (Elt F) ((c : Thread nD τ).loc cc0_scratch1)) :
    rPts c f = iprop(slotPts c c f ∗ bigSep Finset.univ fun k : Fin 7 => slotPts c (source c k) f) := by
  rw [rPts_blocks, bigSep_univ_equiv Fin.revPerm (fun k : Fin 7 => slotPts (F := F) c (toward c k) f)]
  exact congrArg (fun P => iprop(slotPts c c f ∗ P)) (bigSep_congr fun k _ => by rw [source_eq_toward_rev]; rfl)

omit [FloatOps F] in
/-- What the barrier hands over, by the offset at which it will be written. -/
theorem targets (c : Dev nD) : (bigSep Finset.univ fun k : Fin 7 => barPay (F := F) c k)
    = bigSep Finset.univ fun k : Fin 7 => iprop(∃ f, slotPts (F := F) (toward c k) c f) := by
  rw [bigSep_univ_equiv Fin.revPerm (fun k : Fin 7 => iprop(∃ f, slotPts (F := F) (toward c k) c f))]
  exact bigSep_congr fun k _ => by unfold barPay; rw [source_eq_toward_rev]; rfl

/-- The send buffer holding the device's block is seven shares of it. -/
theorem sPts_shares (c : Dev nD) : sPts c (sendAt m c) = bigSep Finset.univ fun k : Fin 7 => sendPts m c k := by
  have h := pointsTo_piecesOf (Ix := Unit) (Name := ℕ) (U := UU) (Lvl := ℕ) (ℓ := (c : Thread nD τ).loc cc0_scratch0) Finset.univ (sendAt m c)
    (o := 7) (by decide) fullShare
  refine h.trans (bigSep_congr fun k _ => ?_)
  unfold sendPts
  rw [show (sM : Memref sig .tc .vmem S24x256 .bf16).view.set = Finset.univ from View.set_whole cc0_scratch0]

/-- The rectangle the device's own block is stored at: the same rows as its block of the receive buffer. -/
abbrev ownRect (c : Dev nD) : Rect S192x256 := Rect.unit (s := S192x256) (k0_off1 c) S24x256.size (k0_off1_inb c)

theorem own_set (c : Dev nD) : (rM.access (ownRect c)).set = (slotM c).view.set := by
  have h : ∀ (o : Fin 2 → ℕ) (ho : o = k0_off2 c) (hb : ∀ a, o a + S24x256.size a ≤ S192x256.size a),
      (rM.access (Rect.unit (s := S192x256) o S24x256.size hb)).set = (slotM c).view.set := fun o ho hb => by subst ho; rfl
  exact h _ ((k0_off1_eq c).trans (k0_off2_eq c).symm) _

theorem own_write (c : Dev nD) (f : Buf (Elt F) ((c : Thread nD τ).loc cc0_scratch1)) (i : S192x256.Idx) (hi : i ∈ (slotM c).view.set) :
    (rM.access (ownRect c)).write (Elt F) f (k0_pay11 (sendAt m c)) Finset.univ i = recvAll m i := by
  have h : ∀ (o : Fin 2 → ℕ) (ho : o = k0_off2 c) (hb : ∀ a, o a + S24x256.size a ≤ S192x256.size a),
      (rM.access (Rect.unit (s := S192x256) o S24x256.size hb)).write (Elt F) f (k0_pay11 (sendAt m c)) Finset.univ i = recvAll m i := fun o ho hb => by
    subst ho
    unfold k0_pay11
    simp only [Idealize.ShloMosaic.shapeCast_self]
    exact write_slot m c f i hi
  exact h _ ((k0_off1_eq c).trans (k0_off2_eq c).symm) _

end Cert.Moe

end
-- ==== Proof.Body.lean ====
/-
# `Body`: one device's body

From the state the launch gives it, the body is run in program order: seven signals, its block computed and stored,
its own rows stored, the barrier wait, seven transfers, seven receive waits, the result, seven send waits.
-/
module

public import proofs.«01_k».proof.Proof.Split

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c` starts its exchange from: the records, its positions, and the duties it pays. -/
def ghost (K : Dev nD × Fin 3 → ℕ) (c : Dev nD) : sProp 𝕄 :=
  iprop(records m K
    ∗ (atPos ER (barCell c) 0 ∅ 0 ∗ atPos ER (sendCell c) 0 ∅ 0 ∗ atPos ER (recvCell c) 0 ∅ 0)
    ∗ (bigSep Finset.univ fun k : Fin 7 => dutyTok ER (barCell (toward c k)) 0 k)
    ∗ (bigSep Finset.univ fun k : Fin 7 => dutyTok ER (sendCell c) 0 k)
    ∗ (bigSep Finset.univ fun k : Fin 7 => dutyTok ER (recvCell (toward c k)) 0 k))

/-- That at some names, its credits, and the levels. -/
def start (c : Dev nD) : sProp 𝕄 :=
  iprop((∃ K, ghost m K c) ∗ cred (tallyAt (barCell c) () 7) ∗ creds (recvCell c) 7 ∗ levAts L lv)

def Φ₀ (c : Dev nD) : sProp 𝕄 := iprop(start m c ∗ (∃ f, sPts c f) ∗ (∃ f, rPts c f))
/-- After the body: the two buffers at what the exchange left, and the three cells closed at zero. -/
def Φ₁ (c : Dev nD) : sProp 𝕄 :=
  iprop((sPts c (sendAt m c) ∗ rPts c (recvAll m)) ∗ semVal (sendCell c) 0 ∗ semVal (recvCell c) 0 ∗ semVal (barCell c) 0)

def s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => iAt m c
    | ⟨2, _⟩ => wAt m c
    | ⟨3, _⟩ => outAt m c
  Φ t := match t with
    | ⟨0, _⟩ => Φ₀ m c
    | ⟨_ + 1, _⟩ => Φ₁ m c
  q _ := fullShare
  owed t := match t with
    | ⟨0, _⟩ => oweB c offsets
    | ⟨_ + 1, _⟩ => 0

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body
variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 7) ∗ creds (recvCell c) 7 ∗ levAts L lv ∗ (∃ f, sPts c f) ∗ (∃ f, rPts c f))
    ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ ∗ stg c cc0_stg0_0 (xAt m c) ∗ stg c cc0_stg1_0 (iAt m c)
    ∗ stg c cc0_stg2_0 (wAt m c) ∗ stg c cc0_stg3_0 (outAt m c))

/-- What it owes at the start, -/
theorem owing_start (c : Dev nD) : ((dats m ρ 0 c).owesAt () t₀.castSucc : sProp 𝕄) ⊢ owing c (oweB c offsets) := by
  unfold Dat.owesAt Pipeline.owesWithin owing
  rw [show (dats m ρ 0 c).owed t₀.castSucc = oweB c offsets from rfl]
  iintro ⟨%W, -, HO⟩
  iexists W; iexact HO
/-- and at the end, nothing. -/
theorem owing_end (c : Dev nD) : (owing c 0 : sProp 𝕄) ⊢ (dats m ρ 0 c).owesAt () t₀.succ := by
  unfold Dat.owesAt Pipeline.owesWithin owing
  rw [show (dats m ρ 0 c).owed t₀.succ = 0 from rfl]
  iintro ⟨%W, HO⟩
  iexists W
  isplitr; · ipureintro; exact fun _ _ => Or.inl trivial
  iexact HO

/-- A cell nothing has been waited for on. -/
theorem partway_zero (g : GSem nD τ sig) : (atPos ER g 0 ∅ 0 : sProp 𝕄) ⊢ partway m g 0 := by
  unfold partway
  rw [Nat.zero_mul]
  iintro H
  iexists ∅
  isplitl [H]; · iexact H
  rw [bigSep_empty]; iempintro

omit [FloatOps F] in
theorem owing_intro (c : Dev nD) (O : CellTallies nD τ sig Unit) (W : Waits sig Unit) : (owes (c : Thread nD τ) O W : sProp 𝕄) ⊢ owing c O := by
  unfold owing
  iintro HO
  iexists W; iexact HO
omit [FloatOps F] in
/-- Every signal given, the seven blocks are what is owed. -/
theorem owing_signalled (c : Dev nD) : (owing c (oweB c []) : sProp 𝕄) ⊢ owing c (oweR c offsets) := BI.Entails.refl _

/-- The own rows, stored. -/
theorem own_stored (c : Dev nD) (f : Buf (Elt F) ((c : Thread nD τ).loc cc0_scratch1)) :
    ((rM.access (ownRect c)).loc (c : Thread nD τ) ↦[(slotM c).view.set]{fullShare} (rM.access (ownRect c)).write (Elt F) f (k0_pay11 (sendAt m c)) Finset.univ : sProp 𝕄)
      ⊢ slotPts c c (recvAll m) := by
  unfold slotPts
  exact Entails.of_eq (pointsTo_congr fun i hi => own_write m c f i hi)

/-- What the barrier's round hands over. -/
theorem bar_paid (c : Dev nD) :
    (bigSep ((sched m).duties (barCell c) 0 \ ∅) (fun d => (sched m).payload (barCell c) 0 d) : sProp 𝕄)
      = bigSep Finset.univ fun k : Fin 7 => iprop(∃ f, slotPts (F := F) (toward c k) c f) := by
  rw [duties_of m (isCell_bar c), Finset.sdiff_empty, ← targets]
  exact bigSep_congr fun k _ => payload_bar m c k

/-- What the receive cell's round hands over is, with the own rows, the whole receive buffer. -/
theorem recv_paid (c : Dev nD) :
    iprop(slotPts c c (recvAll m) ∗ bigSep Finset.univ (fun d => (sched m).payload (recvCell c) 0 d)) ⊢ (rPts c (recvAll m) : sProp 𝕄) := by
  rw [rPts_sources, bigSep_congr (s := Finset.univ) fun (k : Fin 7) _ => payload_recv m c k]
  exact BI.Entails.refl _

/-- What the send cell's round hands over is the send buffer. -/
theorem send_paid (c : Dev nD) : (bigSep Finset.univ (fun d => (sched m).payload (sendCell c) 0 d) : sProp 𝕄) ⊢ sPts c (sendAt m c) := by
  rw [sPts_shares, bigSep_congr (s := Finset.univ) fun (k : Fin 7) _ => payload_send m c k]

omit [FloatOps F] in
theorem sPts_fold (c : Dev nD) (f : Buf (Elt F) ((c : Thread nD τ).loc cc0_scratch0)) :
    (sM.view.loc (c : Thread nD τ) ↦{fullShare} f : sProp 𝕄) ⊢ sPts c f := BI.Entails.refl _

abbrev outRect : Rect S256x256 := Rect.unit (s := S256x256) ![0, 0] S256x256.size inb_S256x256_S256x256_0_0

/-- A receive wait and a send wait are waits for one block's credit. -/
theorem recv_clause (c : Dev nD) {hsrc : (sM : Memref sig .tc .vmem S24x256 .bf16).view.WordExact} {hdst : (slotM c).view.WordExact} (X : PUnit → sProp 𝕄) :
    wpE' (defs₀ (F := F)) 𝒱₀ (c : Thread nD τ) none [] Set.univ (.waitDma2 recvS.sem sM (slotM c) hsrc hdst) X
      = waitSpec (c : Thread nD τ) Set.univ (.dma recvS.sem) N X := by
  rw [← credit_slot c]; rfl
theorem send_clause (c : Dev nD) {hsrc : (slotM c).view.WordExact} {hdst : (sM : Memref sig .tc .vmem S24x256 .bf16).view.WordExact} (X : PUnit → sProp 𝕄) :
    wpE' (defs₀ (F := F)) 𝒱₀ (c : Thread nD τ) none [] Set.univ (.waitDma2 sendS.sem (slotM c) sM hsrc hdst) X
      = waitSpec (c : Thread nD τ) Set.univ (.dma sendS.sem) N X := by
  rw [← credit_send]; rfl

theorem sigRes_intro (c : Dev nD) (k : Fin 7) (f : Buf (Elt F) ((c : Thread nD τ).loc cc0_scratch1)) :
    iprop(dutyTok ER (barCell (toward c k)) 0 k ∗ slotPts c (toward c k) f) ⊢ (sigRes c k : sProp 𝕄) := by
  unfold sigRes
  iintro ⟨H1, H2⟩
  isplitl [H1]; · iexact H1
  iexists f; iexact H2

/-- The signals' resources: each duty with the block it hands over. -/
theorem signals_start (c : Dev nD) (f : Buf (Elt F) ((c : Thread nD τ).loc cc0_scratch1)) :
    iprop((bigSep Finset.univ fun k : Fin 7 => (dutyTok ER (barCell (toward c k)) 0 k : sProp 𝕄)) ∗ bigSep Finset.univ fun k : Fin 7 => slotPts c (toward c k) f)
      ⊢ each (sigRes c) offsets := by
  rw [← bigSep_sep', ← each_offsets]
  exact bigSep_mono fun k _ => sigRes_intro c k f

/-- The transfers' resources: each pair of duties with its share of the send buffer and the block it writes. -/
theorem sends_start (c : Dev nD) :
    iprop((bigSep Finset.univ fun k : Fin 7 => (dutyTok ER (sendCell c) 0 k : sProp 𝕄))
        ∗ (bigSep Finset.univ fun k : Fin 7 => (dutyTok ER (recvCell (toward c k)) 0 k : sProp 𝕄))
        ∗ (bigSep Finset.univ fun k : Fin 7 => sendPts m c k) ∗ bigSep Finset.univ fun k : Fin 7 => iprop(∃ f, slotPts (toward c k) c f))
      ⊢ iprop(creds (sendCell c) 0 ∗ each (sendRes m c) offsets) := by
  refine BI.Entails.trans ?_ (Entails.of_eq (emp_sep_eq (each (sendRes m c) offsets)).symm)
  rw [← bigSep_sep', ← bigSep_sep', ← bigSep_sep', ← each_offsets]
  exact bigSep_mono fun k _ => by unfold sendRes; exact BI.Entails.refl _

set_option maxHeartbeats 4000000 in
set_option maxRecDepth 8000 in
/-- The body, run from `bodyPre`, one lemma per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3) Kt := by
  simp only [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre ghost
  iintro ⟨⟨⟨⟨#HR, ⟨HaB, HaS, HaV⟩, HtB, HtS, HtV⟩, HcB, HcV, #Hlev, ⟨%fs, Hs⟩, ⟨%fr, Hr⟩⟩, Ho,
    ⟨%d0, %g0, %hg0, Hx⟩, ⟨%d1, %g1, %hg1, Hi⟩, ⟨%d2, %g2, %hg2, Hw⟩, ⟨%d3, %g3, %hg3, Hout⟩⟩, Hk⟩
  have hx : g0 = xAt m c := by rw [hg0]; unfold Dat.before; rw [if_pos (fetch_0 t₀)]; rfl
  have hi : g1 = iAt m c := by rw [hg1]; unfold Dat.before; rw [if_pos (fetch_1 t₀)]; rfl
  have hw : g2 = wAt m c := by rw [hg2]; unfold Dat.before; rw [if_pos (fetch_2 t₀)]; rfl
  subst hx hi hw
  ihave HO := (owing_start m ρ c) $$ Ho
  -- the seven signals, each with the block of the receive buffer it hands over
  ihave Hr' := (Entails.of_eq (rPts_blocks c fr)) $$ Hr
  icases Hr' with ⟨Hown, Hslots⟩
  ihave Hsig := (signals_start c fr) $$ [HtB Hslots]
  · isplitl [HtB] <;> iassumption
  iapply (step_signal m K c _ 0 [1, 2, 3, 4, 5, 6] (sig1_eq c)) $$ [HO Hsig]
  · isplitr; · iexact HR
    isplitl [HO] <;> iassumption
  iintro ⟨HO, Hsig⟩
  iapply (step_signal m K c _ 1 [2, 3, 4, 5, 6] (sig2_eq c)) $$ [HO Hsig]
  · isplitr; · iexact HR
    isplitl [HO] <;> iassumption
  iintro ⟨HO, Hsig⟩
  iapply (step_signal m K c _ 2 [3, 4, 5, 6] (sig3_eq c)) $$ [HO Hsig]
  · isplitr; · iexact HR
    isplitl [HO] <;> iassumption
  iintro ⟨HO, Hsig⟩
  iapply (step_signal m K c _ 3 [4, 5, 6] (sig4_eq c)) $$ [HO Hsig]
  · isplitr; · iexact HR
    isplitl [HO] <;> iassumption
  iintro ⟨HO, Hsig⟩
  iapply (step_signal m K c _ 4 [5, 6] (sig5_eq c)) $$ [HO Hsig]
  · isplitr; · iexact HR
    isplitl [HO] <;> iassumption
  iintro ⟨HO, Hsig⟩
  iapply (step_signal m K c _ 5 [6] (sig6_eq c)) $$ [HO Hsig]
  · isplitr; · iexact HR
    isplitl [HO] <;> iassumption
  iintro ⟨HO, Hsig⟩
  iapply (step_signal m K c _ 6 [] (sig7_eq c)) $$ [HO Hsig]
  · isplitr; · iexact HR
    isplitl [HO] <;> iassumption
  iintro ⟨HO, -⟩
  -- its block, computed and stored half by half
  iapply (wp_load 𝒱₀ (c : Thread nD τ) none Set.univ (m := iM) (Finset.subset_univ _)) $$ Hi; iintro Hi
  rw [read_i]
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  unfold sPts
  iapply (wp_load 𝒱₀ (c : Thread nD τ) none Set.univ (m := sM) (Finset.subset_univ _)) $$ Hs; iintro Hs
  iapply (wp_store 𝒱₀ (c : Thread nD τ) none Set.univ (m := sM) (r := sr0) (Mk := Finset.univ) (Finset.subset_univ _)) $$ Hs; iintro Hs
  iapply (wp_load 𝒱₀ (c : Thread nD τ) none Set.univ (m := wM) (Finset.subset_univ _)) $$ Hw; iintro Hw
  iapply (wp_load 𝒱₀ (c : Thread nD τ) none Set.univ (m := sM) (Finset.subset_univ _)) $$ Hs; iintro Hs
  iapply (wp_store 𝒱₀ (c : Thread nD τ) none Set.univ (m := sM) (r := sr1) (Mk := Finset.univ) (Finset.subset_univ _)) $$ Hs; iintro Hs
  have hh := write_halves m c fs
  unfold topAt botAt gatheredTop gathered at hh
  rw [hh]
  iapply (wp_load 𝒱₀ (c : Thread nD τ) none Set.univ (m := sM) (Finset.subset_univ _)) $$ Hs; iintro Hs
  rw [read_s]
  -- its own rows of its receive buffer
  unfold slotPts
  iapply (wp_load_rect 𝒱₀ (c : Thread nD τ) none Set.univ (m := rM) (r := ownRect c) (le_of_eq (own_set c))) $$ Hown; iintro Hown
  iapply (wp_store 𝒱₀ (c : Thread nD τ) none Set.univ (m := rM) (r := ownRect c) (Mk := Finset.univ) (le_of_eq (own_set c))) $$ Hown; iintro Hown
  ihave Hown := (own_stored m c fr) $$ Hown
  -- the barrier wait: every target's block comes with it
  ihave HO := (owing_signalled (F := F) c) $$ HO
  unfold owing
  icases HO with ⟨%W, HO⟩
  iapply (Rounds.wp_wait_rest_token 𝒱₀ ER (sched m) (c : Thread nD τ) none (κ := K (c, 0))
      (wpE_semWait_eq 𝒱₀ (c : Thread nD τ) none Set.univ) (Set.mem_univ _) () (O := oweR c offsets) (W := W) (R := 0) (m := 0) (T := ∅)
      (by rw [expect_of m (isCell_bar c) (amount_bar m c)]; decide)) $$ [HcB HO HaB]
  · isplitr; · iapply (inv_at m K (c, 0)); iexact HR
    isplitl [HcB]; · iexact HcB
    isplitl [HO]; · iexact HO
    isplitr; · iapply (mayWait_bar c); iexact Hlev
    iexact HaB
  iintro ⟨HO, HaB, -, Hpay⟩
  ihave HO := (owing_intro (F := F) c (oweR c offsets) _) $$ HO
  ihave Htg := (Entails.of_eq (bar_paid m c)) $$ Hpay
  -- the seven transfers
  ihave Hs := (sPts_fold c (sendAt m c)) $$ Hs
  ihave Hsh := (Entails.of_eq (sPts_shares m c)) $$ Hs
  ihave Hsend := (sends_start m c) $$ [HtS HtV Hsh Htg]
  · isplitl [HtS]; · iexact HtS
    isplitl [HtV]; · iexact HtV
    isplitl [Hsh] <;> iassumption
  icases Hsend with ⟨HcS, Hsend⟩
  iapply (step_send m K c _ 0 [1, 2, 3, 4, 5, 6] 0 (snd1_eq c)) $$ [HO HcS Hsend]
  · isplitr; · iexact HR
    isplitl [HO]; · iexact HO
    isplitl [HcS] <;> iassumption
  iintro ⟨HO, HcS, Hsend⟩
  iapply (step_send m K c _ 1 [2, 3, 4, 5, 6] 1 (snd2_eq c)) $$ [HO HcS Hsend]
  · isplitr; · iexact HR
    isplitl [HO]; · iexact HO
    isplitl [HcS] <;> iassumption
  iintro ⟨HO, HcS, Hsend⟩
  iapply (step_send m K c _ 2 [3, 4, 5, 6] 2 (snd3_eq c)) $$ [HO HcS Hsend]
  · isplitr; · iexact HR
    isplitl [HO]; · iexact HO
    isplitl [HcS] <;> iassumption
  iintro ⟨HO, HcS, Hsend⟩
  iapply (step_send m K c _ 3 [4, 5, 6] 3 (snd4_eq c)) $$ [HO HcS Hsend]
  · isplitr; · iexact HR
    isplitl [HO]; · iexact HO
    isplitl [HcS] <;> iassumption
  iintro ⟨HO, HcS, Hsend⟩
  iapply (step_send m K c _ 4 [5, 6] 4 (snd5_eq c)) $$ [HO HcS Hsend]
  · isplitr; · iexact HR
    isplitl [HO]; · iexact HO
    isplitl [HcS] <;> iassumption
  iintro ⟨HO, HcS, Hsend⟩
  iapply (step_send m K c _ 5 [6] 5 (snd6_eq c)) $$ [HO HcS Hsend]
  · isplitr; · iexact HR
    isplitl [HO]; · iexact HO
    isplitl [HcS] <;> iassumption
  iintro ⟨HO, HcS, Hsend⟩
  iapply (step_send m K c _ 6 [] 6 (snd7_eq c)) $$ [HO HcS Hsend]
  · isplitr; · iexact HR
    isplitl [HO]; · iexact HO
    isplitl [HcS] <;> iassumption
  iintro ⟨HO, HcS, -⟩
  ihave HO := (Entails.of_eq (show owing (F := F) c (oweR c []) = owing c 0 from rfl)) $$ HO
  -- the seven waits for the blocks it receives
  ihave HpV := (partway_zero m (recvCell c)) $$ HaV
  iapply (step_wait m c (.dma recvS.sem) 6 0 (K (c, 2)) (recv_clause c)) $$ [HO HcV HpV]
  · isplitr; · iapply (inv_at m K (c, 2)); iexact HR
    isplitl [HO]; · iexact HO
    isplitl [HcV] <;> iassumption
  iintro ⟨HO, HcV, HpV⟩
  iapply (step_wait m c (.dma recvS.sem) 5 1 (K (c, 2)) (recv_clause c)) $$ [HO HcV HpV]
  · isplitr; · iapply (inv_at m K (c, 2)); iexact HR
    isplitl [HO]; · iexact HO
    isplitl [HcV] <;> iassumption
  iintro ⟨HO, HcV, HpV⟩
  iapply (step_wait m c (.dma recvS.sem) 4 2 (K (c, 2)) (recv_clause c)) $$ [HO HcV HpV]
  · isplitr; · iapply (inv_at m K (c, 2)); iexact HR
    isplitl [HO]; · iexact HO
    isplitl [HcV] <;> iassumption
  iintro ⟨HO, HcV, HpV⟩
  iapply (step_wait m c (.dma recvS.sem) 3 3 (K (c, 2)) (recv_clause c)) $$ [HO HcV HpV]
  · isplitr; · iapply (inv_at m K (c, 2)); iexact HR
    isplitl [HO]; · iexact HO
    isplitl [HcV] <;> iassumption
  iintro ⟨HO, HcV, HpV⟩
  iapply (step_wait m c (.dma recvS.sem) 2 4 (K (c, 2)) (recv_clause c)) $$ [HO HcV HpV]
  · isplitr; · iapply (inv_at m K (c, 2)); iexact HR
    isplitl [HO]; · iexact HO
    isplitl [HcV] <;> iassumption
  iintro ⟨HO, HcV, HpV⟩
  iapply (step_wait m c (.dma recvS.sem) 1 5 (K (c, 2)) (recv_clause c)) $$ [HO HcV HpV]
  · isplitr; · iapply (inv_at m K (c, 2)); iexact HR
    isplitl [HO]; · iexact HO
    isplitl [HcV] <;> iassumption
  iintro ⟨HO, HcV, HpV⟩
  iapply (step_wait_last m c (.dma recvS.sem) (K (c, 2)) (isCell_recv c) (amount_recv m c) (recv_clause c)) $$ [HO HcV HpV]
  · isplitr; · iapply (inv_at m K (c, 2)); iexact HR
    isplitl [HO]; · iexact HO
    isplitl [HcV] <;> iassumption
  iintro ⟨HO, HaV, Hpay⟩
  ihave Hr := (recv_paid m c) $$ [Hown Hpay]
  · isplitl [Hown] <;> iassumption
  -- the result
  unfold rPts
  iapply (wp_load 𝒱₀ (c : Thread nD τ) none Set.univ (m := rM) (Finset.subset_univ _)) $$ Hr; iintro Hr
  rw [read_r]
  iapply (wp_load 𝒱₀ (c : Thread nD τ) none Set.univ (m := oM) (Finset.subset_univ _)) $$ Hout; iintro Hout
  iapply (wp_store 𝒱₀ (c : Thread nD τ) none Set.univ (m := oM) (r := outRect) (Mk := Finset.univ) (Finset.subset_univ _)) $$ Hout; iintro Hout
  rw [write_o]
  -- the seven waits for its own transfers
  ihave HpS := (partway_zero m (sendCell c)) $$ HaS
  iapply (step_wait m c (.dma sendS.sem) 6 0 (K (c, 1)) (send_clause c)) $$ [HO HcS HpS]
  · isplitr; · iapply (inv_at m K (c, 1)); iexact HR
    isplitl [HO]; · iexact HO
    isplitl [HcS] <;> iassumption
  iintro ⟨HO, HcS, HpS⟩
  iapply (step_wait m c (.dma sendS.sem) 5 1 (K (c, 1)) (send_clause c)) $$ [HO HcS HpS]
  · isplitr; · iapply (inv_at m K (c, 1)); iexact HR
    isplitl [HO]; · iexact HO
    isplitl [HcS] <;> iassumption
  iintro ⟨HO, HcS, HpS⟩
  iapply (step_wait m c (.dma sendS.sem) 4 2 (K (c, 1)) (send_clause c)) $$ [HO HcS HpS]
  · isplitr; · iapply (inv_at m K (c, 1)); iexact HR
    isplitl [HO]; · iexact HO
    isplitl [HcS] <;> iassumption
  iintro ⟨HO, HcS, HpS⟩
  iapply (step_wait m c (.dma sendS.sem) 3 3 (K (c, 1)) (send_clause c)) $$ [HO HcS HpS]
  · isplitr; · iapply (inv_at m K (c, 1)); iexact HR
    isplitl [HO]; · iexact HO
    isplitl [HcS] <;> iassumption
  iintro ⟨HO, HcS, HpS⟩
  iapply (step_wait m c (.dma sendS.sem) 2 4 (K (c, 1)) (send_clause c)) $$ [HO HcS HpS]
  · isplitr; · iapply (inv_at m K (c, 1)); iexact HR
    isplitl [HO]; · iexact HO
    isplitl [HcS] <;> iassumption
  iintro ⟨HO, HcS, HpS⟩
  iapply (step_wait m c (.dma sendS.sem) 1 5 (K (c, 1)) (send_clause c)) $$ [HO HcS HpS]
  · isplitr; · iapply (inv_at m K (c, 1)); iexact HR
    isplitl [HO]; · iexact HO
    isplitl [HcS] <;> iassumption
  iintro ⟨HO, HcS, HpS⟩
  iapply (step_wait_last m c (.dma sendS.sem) (K (c, 1)) (isCell_send c) (amount_send m c) (send_clause c)) $$ [HO HcS HpS]
  · isplitr; · iapply (inv_at m K (c, 1)); iexact HR
    isplitl [HO]; · iexact HO
    isplitl [HcS] <;> iassumption
  iintro ⟨HO, HaS, Hpay⟩
  ihave Hs := (send_paid m c) $$ Hpay
  -- the three cells close
  imod (Rounds.cell_close ER (sched m) (Set.mem_univ (K (c, 1))) (fun h => h) (R := 0 + 1) (duties_later m (sendCell c))) $$ [HaS] with HzS
  · isplitr; · iapply (inv_at m K (c, 1)); iexact HR
    iexact HaS
  imod (Rounds.cell_close ER (sched m) (Set.mem_univ (K (c, 2))) (fun h => h) (R := 0 + 1) (duties_later m (recvCell c))) $$ [HaV] with HzV
  · isplitr; · iapply (inv_at m K (c, 2)); iexact HR
    iexact HaV
  imod (Rounds.cell_close ER (sched m) (Set.mem_univ (K (c, 0))) (fun h => h) (R := 0 + 1) (duties_later m (barCell c))) $$ [HaB] with HzB
  · isplitr; · iapply (inv_at m K (c, 0)); iexact HR
    iexact HaB
  rw [wp_ret]; imodintro
  iapply Hk
  unfold bodyPost Φ₁
  isplitl [Hs Hr HzS HzV HzB]
  · isplitl [Hs Hr]
    · isplitl [Hs]; · iexact Hs
      unfold rPts; iexact Hr
    isplitl [HzS]; · iexact HzS
    isplitl [HzV] <;> iassumption
  isplitl [HO]; · iapply (owing_end m ρ c); iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr
  · ipureintro; exact (show _ = outAt m c from rfl)
  iexact Hout

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [show ∀ Φ : Fin cfg0.W → sProp 𝕄, bigSep Finset.univ Φ = iprop(Φ (0 : Fin 4) ∗ Φ (1 : Fin 4) ∗ Φ (2 : Fin 4) ∗ Φ (3 : Fin 4)) from bigSep_W0,
    show ∀ Φ : Fin cfg0.W → sProp 𝕄, bigSep Finset.univ Φ = iprop(Φ (0 : Fin 4) ∗ Φ (1 : Fin 4) ∗ Φ (2 : Fin 4) ∗ Φ (3 : Fin 4)) from bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _) cc0_scratch2 cc0_scratch3)
    (fun _ => bodyPost m ρ c)
  unfold bodyPre' Φ₀ start
  iintro ⟨⟨⟨⟨%K, Hg⟩, H1, H2, H3⟩, Hs, Hr⟩, Hrest⟩
  iapply (sound_body m ρ K c fun _ => bodyPost m ρ c)
  unfold bodyPre
  isplitr []
  · isplitl [Hg H1 H2 H3 Hs Hr]
    · isplitl [Hg]; · iexact Hg
      isplitl [H1]; · iexact H1
      isplitl [H2]; · iexact H2
      isplitl [H3]; · iexact H3
      isplitl [Hs] <;> iassumption
    iexact Hrest
  · iintro H; iexact H

end Body

end Cert.Moe

end
-- ==== Proof.Launch.lean ====
/-
# `Launch`: the whole program run

What the launch deals each device — its cells' rounds and the tokens of the duties IT pays —, the credits its cells get
for what the other devices owe them, and the run of the whole program from any memory with every counter at zero.
-/
module

public import proofs.«01_k».proof.Proof.Body
public import Idealize.ShloMosaic.Lib.Pipeline.CollectiveSegs

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state the launch mints -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 3 → SemLoc sig) := by
  intro a b h
  fin_cases a <;> fin_cases b <;> first | rfl | exact absurd h (by decide)

theorem kcell_injective : Function.Injective (kcell : Dev nD × Fin 3 → GSem nD τ sig) := fun a b h =>
  Prod.ext (congrArg (fun g : GSem nD τ sig => g.1.1) h) (csem_injective (congrArg Prod.snd h))

/-- Every cell of the protocol. -/
def allCells : Finset (GSem nD τ sig) := Finset.univ.map ⟨kcell, kcell_injective⟩

/-- A duty token as minted: of a cell, for the offset. -/
abbrev tokAt (x : (Dev nD × Fin 3) × Fin 7) : GSem nD τ sig × ℕ × Fin 7 := (kcell x.1, 0, x.2)
theorem tokAt_injective : Function.Injective tokAt := fun a b h =>
  Prod.ext (kcell_injective (congrArg Prod.fst h)) (congrArg (fun y : GSem nD τ sig × ℕ × Fin 7 => y.2.2) h)
/-- Every duty token. -/
def allToks : Finset (GSem nD τ sig × ℕ × Fin 7) := Finset.univ.map ⟨tokAt, tokAt_injective⟩

def u₀ : UU :=
  (initOf (Pipeline.cells cfgs cellOf_inj) (Pipeline.launchToks cfgs cellOf_inj), initOf allCells allToks)

/-- The tokens of the duties of device `c`'s own cells. -/
def toks (c : Dev nD) : sProp 𝕄 :=
  iprop((bigSep Finset.univ fun k : Fin 7 => dutyTok ER (barCell c) 0 k)
    ∗ (bigSep Finset.univ fun k : Fin 7 => dutyTok ER (sendCell c) 0 k)
    ∗ (bigSep Finset.univ fun k : Fin 7 => dutyTok ER (recvCell c) 0 k))

/-- The tokens of the duties device `c` pays. -/
def payToks (c : Dev nD) : sProp 𝕄 :=
  iprop((bigSep Finset.univ fun k : Fin 7 => dutyTok ER (barCell (toward c k)) 0 k)
    ∗ (bigSep Finset.univ fun k : Fin 7 => dutyTok ER (sendCell c) 0 k)
    ∗ (bigSep Finset.univ fun k : Fin 7 => dutyTok ER (recvCell (toward c k)) 0 k))

/-- Device `c`'s positions in its three cells, each with the record that its round is reached. -/
def places (c : Dev nD) : sProp 𝕄 :=
  bigSep Finset.univ fun k : Fin 3 => iprop(atPos ER (kcell (c, k)) 0 ∅ 0 ∗ reached ER (kcell (c, k)) 0)

def G (c : Dev nD) : sProp 𝕄 :=
  iprop((bigSep Finset.univ fun k : Fin 3 => roundState ER (sched m) (kcell (c, k)) 0) ∗ places c ∗ toks c)

def G' (c : Dev nD) : sProp 𝕄 := iprop(∃ K, ghost m K c)

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
theorem over_cells (Φ : GSem nD τ sig → sProp 𝕄) :
    bigSep allCells Φ = bigSep Finset.univ fun c : Dev nD => bigSep Finset.univ fun k : Fin 3 => Φ (kcell (c, k)) := by
  unfold allCells; rw [bigSep_map, bigSep_univ_prod]; rfl

omit [FloatOps F] in
theorem over_toks : (bigSep allToks (fun x => dutyTok ER x.1 x.2.1 x.2.2) : sProp 𝕄) = bigSep Finset.univ fun c : Dev nD => toks c := by
  unfold allToks
  rw [bigSep_map, bigSep_univ_prod, bigSep_univ_prod]
  exact bigSep_congr fun c _ => by unfold toks; rw [bigSep_three]; rfl

/-- The minted element is every device's `G`. -/
theorem mint : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst' := (Entails.of_eq (over_cells fun g => roundState ER (sched m) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G places; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores at zero are its three cells at zero. -/
theorem sems_cells (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_three]
  iintro ⟨⟨HS, HV⟩, HB⟩
  isplitl [HB]; · iexact HB
  isplitl [HS] <;> iassumption

/-- The invariants of device `c`'s cells, under some names. -/
def known (c : Dev nD) : sProp 𝕄 := bigSep Finset.univ fun k : Fin 3 => iprop(∃ κ : ℕ, cellInv ER (sched m) κ (kcell (c, k)))

/-- Cells at zero, with their rounds' states, become invariants. -/
theorem cells_open (c : Dev nD) :
    iprop((bigSep Finset.univ fun k : Fin 3 => semVal (kcell (c, k)) 0) ∗ bigSep Finset.univ fun k : Fin 3 => roundState ER (sched m) (kcell (c, k)) 0)
      ⊢ (|={Set.univ}=> known m c : sProp 𝕄) := by
  unfold known
  rw [← bigSep_sep']
  exact BI.Entails.trans (bigSep_mono fun k _ => BI.Entails.trans (Rounds.body_intro ER (sched m) (kcell (c, k))) inv_alloc) (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(known m c ∗ places c ∗ toks c) := by
  unfold G
  iintro ⟨Hos, Hus, Hst, Hat, Htok⟩
  ihave Hv := (sems_cells (F := F) c) $$ [Hos Hus]
  · isplitl [Hos] <;> iassumption
  imod (cells_open m c) $$ [Hv Hst] with Hinv
  · isplitl [Hv] <;> iassumption
  imodintro
  isplitl [Hinv]; · iexact Hinv
  isplitl [Hat] <;> iassumption

/-! ## Dealing the tokens -/

/-- The pairs (device, offset), each moved to the device that offset away. -/
def ringPairs : Dev nD × Fin 7 ≃ Dev nD × Fin 7 where
  toFun x := (toward x.1 x.2, x.2)
  invFun x := (source x.1 x.2, x.2)
  left_inv x := Prod.ext (source_toward x.1 x.2) rfl
  right_inv x := Prod.ext (toward_source x.1 x.2) rfl

omit [FloatOps F] in
/-- Something held of every device for every offset may be held of the device that offset away. -/
theorem dealt (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (toward c k) k := by
  rw [← bigSep_univ_prod (fun x : Dev nD × Fin 7 => Φ x.1 x.2), bigSep_univ_equiv ringPairs, bigSep_univ_prod]
  rfl

omit [FloatOps F] in
theorem toks_dealt : (bigSep Finset.univ fun c : Dev nD => (toks c : sProp 𝕄)) = bigSep Finset.univ fun c : Dev nD => payToks c := by
  unfold toks payToks
  rw [bigSep_sep', bigSep_sep', bigSep_sep', bigSep_sep',
    dealt fun c k => dutyTok ER (barCell c) 0 k, dealt fun c k => dutyTok ER (recvCell c) 0 k]

/-- What one device keeps: its positions and the tokens it pays with. -/
def kept (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ kept c) ⊢ G' m c := by
  unfold kept payToks G' ghost
  iintro ⟨HR, Hat, Htok⟩
  iexists K
  isplitl [HR]; · iexact HR
  isplitl [Hat] <;> iassumption

omit [FloatOps F] in
/-- What persists may be used for every device. -/
theorem each_with {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  BI.Entails.trans (sep_mono_left (BI.bigSep_of_persistent Finset.univ R)) (by rw [← bigSep_sep']; exact bigSep_mono fun c _ => h c)

omit [FloatOps F] in
theorem places_split : (bigSep Finset.univ fun c : Dev nD => (places c : sProp 𝕄))
    = iprop((bigSep Finset.univ fun c : Dev nD => bigSep Finset.univ fun k : Fin 3 => atPos ER (kcell (c, k)) 0 ∅ 0)
        ∗ bigSep Finset.univ fun ck : Dev nD × Fin 3 => reached ER (kcell ck) 0) := by
  unfold places
  rw [bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]

omit [FloatOps F] in
theorem kept_intro : iprop((bigSep Finset.univ fun c : Dev nD => bigSep Finset.univ fun k : Fin 3 => atPos ER (kcell (c, k)) 0 ∅ 0)
      ∗ bigSep Finset.univ fun c : Dev nD => payToks c) ⊢ (bigSep Finset.univ fun c : Dev nD => kept c : sProp 𝕄) := by
  rw [← bigSep_sep']
  refine bigSep_mono fun c _ => ?_
  unfold kept
  rw [bigSep_three]
  exact BI.Entails.refl _

theorem regroup : (bigSep Finset.univ fun c : Dev nD => iprop(known m c ∗ places c ∗ toks c) : sProp 𝕄) ⊢ bigSep Finset.univ (G' m) := by
  rw [bigSep_sep', bigSep_sep', places_split, toks_dealt]
  unfold known
  rw [← bigSep_univ_prod (fun ck : Dev nD × Fin 3 => iprop(∃ κ : ℕ, cellInv ER (sched m) κ (kcell ck)))]
  iintro ⟨HI, ⟨Hat, HR⟩, Htok⟩
  ihave HK := (BI.bigSep_exists_pi Finset.univ (fun (ck : Dev nD × Fin 3) (κ : ℕ) => (cellInv ER (sched m) κ (kcell ck) : sProp 𝕄))) $$ HI
  icases HK with ⟨%K, HI⟩
  iapply (each_with (R := records m K) fun c => ghost_intro m K c)
  isplitl [HI HR]
  · unfold records
    isplitl [HI] <;> iassumption
  · iapply (kept_intro (F := F))
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  BI.Entails.trans (BI.Entails.trans (bigSep_mono fun c _ => core_alloc m c) (bigSep_fupd _ _)) (BI.fupd_mono (regroup m))

/-! ## The launch credits -/

def O₀ (c : Dev nD) : CellTallies nD τ sig Unit := oweB c offsets

theorem bar_eq_iff {a b : Dev nD} : barCell a = barCell b ↔ a = b :=
  ⟨fun h => congrArg (fun g : GSem nD τ sig => g.1.1) h, fun h => h ▸ rfl⟩
theorem recv_eq_iff {a b : Dev nD} : recvCell a = recvCell b ↔ a = b :=
  ⟨fun h => congrArg (fun g : GSem nD τ sig => g.1.1) h, fun h => h ▸ rfl⟩

/-- How many of the offsets listed lead from `d` to `c`. -/
def hits (d c : Dev nD) : List (Fin 7) → ℕ
  | [] => 0
  | k :: ks => hits d c ks + if c = toward d k then 1 else 0

theorem owed_recv (d c : Dev nD) : ∀ ks, oweR d ks (recvCell c) () = hits d c ks * N
  | [] => by unfold oweR hits; rw [Nat.zero_mul]; rfl
  | k :: ks => by
    unfold oweR hits
    rw [Pi.add_apply, Finsupp.add_apply, owed_recv d c ks, tallyAt_apply, Nat.add_mul]
    congr 1
    by_cases h : c = toward d k
    · rw [if_pos ⟨recv_eq_iff.mpr h, rfl⟩, if_pos h, Nat.one_mul]
    · rw [if_neg (fun h' => h (recv_eq_iff.mp h'.1)), if_neg h, Nat.zero_mul]

theorem owed_recv' (d c : Dev nD) : ∀ ks, oweB d ks (recvCell c) () = hits d c offsets * N
  | [] => owed_recv d c offsets
  | k :: ks => by
    unfold oweB
    rw [Pi.add_apply, Finsupp.add_apply, owed_recv' d c ks, tallyAt_ne_cell (fun h => recv_ne_bar (congrArg Prod.snd h)), Finsupp.zero_apply, Nat.add_zero]

theorem owed_bar (d c : Dev nD) : ∀ ks, oweB d ks (barCell c) () = hits d c ks
  | [] => Nat.eq_zero_of_not_pos fun h => by
    obtain ⟨e, he⟩ := oweR_pos (c := d) (ks := offsets) h
    exact recv_ne_bar (congrArg Prod.snd he).symm
  | k :: ks => by
    unfold oweB hits
    rw [Pi.add_apply, Finsupp.add_apply, owed_bar d c ks, tallyAt_apply]
    congr 1
    by_cases h : c = toward d k
    · rw [if_pos ⟨bar_eq_iff.mpr h, rfl⟩, if_pos h]
    · rw [if_neg (fun h' => h (bar_eq_iff.mp h'.1)), if_neg h]

/-- Seven of the (device, offset) pairs lead to a device. -/
theorem hits_sum : ∀ c : Dev nD, ∑ d : Dev nD, hits d c offsets = 7 := by decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => show O₀ d (barCell c) () = _ from owed_bar d c offsets, hits_sum]

theorem launch_recv (c : Dev nD) :
    tallyOn (recvCell c) (launchCredit (Pipeline.owing O₀) 0 (recvCell c)) = (tallyAt (recvCell c) () (7 * N) : CellTallies nD τ sig Unit) := by
  unfold tallyAt; refine congrArg _ (Finsupp.ext fun u => ?_); cases u
  rw [Pipeline.launchCredit_owing, Finsupp.single_eq_same, Finset.sum_congr rfl fun d _ => show O₀ d (recvCell c) () = _ from owed_recv' d c offsets, ← Finset.sum_mul, hits_sum]

omit [FloatOps F] in
/-- A cell's credit for several blocks, block by block. -/
theorem creds_split (g : GSem nD τ sig) : ∀ n : ℕ, (cred (tallyAt g () (n * N)) : sProp 𝕄) ⊢ creds g n
  | 0 => by rw [Nat.zero_mul, tallyAt_zero, cred_zero]; exact BI.Entails.refl _
  | n + 1 => by
    rw [Nat.succ_mul, Nat.add_comm, ← tallyAt_add]
    exact BI.Entails.trans (cred_add _ _).1 (sep_mono_right (creds_split g n))

omit [FloatOps F] in
theorem credit_launch (c : Dev nD) : (Pipeline.launchCred O₀ c : sProp 𝕄) ⊢ iprop(cred (tallyAt (barCell c) () 7) ∗ creds (recvCell c) 7) := by
  unfold Pipeline.launchCred
  rw [bigSep_univ_at _ (SemLoc.reg barS), launch_bar]
  refine sep_mono_right (BI.Entails.trans ?_ (creds_split (recvCell c) 7))
  rw [← launch_recv]
  exact bigSep_elim (Finset.mem_erase.mpr ⟨recv_ne_bar, Finset.mem_univ _⟩)

/-! ## The launch's side conditions -/

/-- The array the kernel does not use, whole. -/
def spare (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ spare m c) := by
  rw [Pipeline.unscopedRestP_none, unscopedRest0_eq]
  iintro ⟨Hsp, Hlev, Hcr, -, HG⟩
  ihave Hc := (credit_launch (F := F) c) $$ Hcr
  icases Hc with ⟨H1, HN⟩
  imodintro
  unfold start G' spare
  isplitr [Hsp]
  · isplitl [HG]; · iexact HG
    isplitl [H1]; · iexact H1
    isplitl [HN] <;> iassumption
  · iexact Hsp

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ sPts rPts
  iintro ⟨Hs, -, H0, H1⟩
  isplitl [Hs]; · iexact Hs
  isplitl [H0] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ sPts rPts
  iintro ⟨⟨H0, H1⟩, HzS, HzV, HzB⟩
  isplitl [HzB]; · iexact HzB
  isplitl [HzS HzV]
  · isplitl [HzS] <;> iassumption
  isplitl [H0]
  · iexists (sendAt m c); iexact H0
  · iexists (recvAll m); iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of a window's array after the run. -/
def finalA (c : Dev nD) (w : Fin cfg0.W) : Buf (Elt F) ((cfg0.win w).arr.view.loc (c : Thread nD τ)) := (dats m ρ 0 c).arrAt w cfg0.N

/-- Every window's array at those contents, and the array no window covers unchanged. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- What is held of a device at the end, read off the final state. -/
theorem end_read (c : Dev nD) (s' : Phys nD τ sig (Elt F)) :
    iprop(unscopedSems0 c ∗ spare m c ∗ SI s')
      ⊢ |={Set.univ}=> iprop(⌜s'.mem.mem ((c : Thread nD τ).loc main_arg1) = m ((c : Thread nD τ).loc main_arg1)
          ∧ ∀ sm : SemLoc sig, sm.isScoped .tc = false → s'.mem.sem ((c.tc : Thread nD τ), sm) = 0⌝ ∗ (SI s' : sProp 𝕄)) := by
  unfold spare
  iintro ⟨Hu, Hsp, HSI⟩
  icombine HSI Hsp gives %h
  imod (Pipeline.unscopedSems0_read (X := unscopedSems0 c) (c := c) fupd_intro s') $$ [Hu HSI] with ⟨%h', HSI⟩
  · isplitl [Hu] <;> iassumption
  imodintro
  isplitr
  · ipureintro; exact ⟨Buf.eq_of_forall_mem_univ h, h'⟩
  · iexact HSI

set_option maxRecDepth 8000 in
/-- On the compiled mesh of eight devices, for any float values, from any memory with every counter at zero: every
    weakly fair execution of the program terminates, and at every final state each window's array holds the computed
    contents, the array no window covers is unchanged, and every counter is at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := glob m)
    (hA := fun _ _ => rfl) (hpf := fun _ k => k.elim0)
    (X := start m) (Y := fun c => unscopedSems0 c) (Z := spare m)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := end_read m)
    (hQ := fun _ h hs => ⟨fun c => ⟨(h c).1, (h c).2.2.1⟩, sem_eq_zero hs fun c => (h c).2.2.2⟩)

/-- An input's array ends as it was. -/
theorem finalA_in (c : Dev nD) (w : Fin cfg0.W) (h : (cfg0.win w).isOut = false) :
    finalA m ρ c w = m ((cfg0.win w).arr.view.loc (c : Thread nD τ)) := (dats (F := F) m ρ 0 c).arrAt_in w h _

end Cert.Moe

end
-- ==== Proof.Frames.lean ====
/-
# `Frames`: what the runs say of the arguments and the counters

The kernel's two programs have the same text, so the run over any float values is a run of either; the reference's run
is the generated one.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Moe

open Cert.KernelIdeal Cert.KernelIdeal.Gen
open Idealize.ShloMosaic
open Idealize.ShloMosaic.TcCoe
open Idealize.SL Idealize.SL.Sem

variable {F : FTy → Type} [FloatOps F] (m : (ℓ : Loc nD τ sig) → Buf (Elt F) ℓ) (ρ : Dev nD → PrngReg)

/-- After the run every argument is unchanged. -/
theorem args_kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 (0 : Fin 4)).trans (finalA_in m ρ c 0 rfl), (h c).2, ((h c).1 (1 : Fin 4)).trans (finalA_in m ρ c 1 rfl),
    ((h c).1 (2 : Fin 4)).trans (finalA_in m ρ c 2 rfl)⟩

/-- The kernel runs, keeps its arguments and leaves every counter at zero, whatever its floats are. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_kept m ρ h.1, h.2⟩) (run_main m ρ)

theorem quiet_ideal : Cert.quiescent_KernelIdeal := fun m ρ _ => quiet (F := Ideal) m ρ

/-- The kernel's two programs have one body table. -/
theorem body_table : Cert.Kernel.defs₀ (F := F) = Cert.KernelIdeal.defs₀ (F := F) := by
  unfold Cert.Kernel.defs₀ Cert.KernelIdeal.defs₀
  refine congrArg Defs.onTc (funext fun l => funext fun a => ?_)
  rcases l with ⟨_ | n, h⟩
  · rfl
  · exact absurd h (Nat.not_lt.2 (Nat.le_add_left _ _))

/-- So they are the same program. -/
theorem whole_table : Cert.Kernel.defs (F := F) = Cert.KernelIdeal.defs (F := F) := by
  unfold Cert.Kernel.defs Cert.KernelIdeal.defs
  exact congrArg (Pipeline.defs _) body_table

/-- The kernel on floats is that program on floats. -/
theorem quiet_bits : Cert.quiescent_Kernel := fun m ρ _ => by
  have h := quiet (F := Bits) m ρ
  rw [← whole_table] at h
  exact h

/-- So does the reference, which has no counters. -/
theorem quiet_reference : Cert.quiescent_ReferenceIdeal := fun m ρ _ =>
  (θ_run Cert.ReferenceIdeal.defs _ _).mono (fun r h => ⟨fun c => ⟨(h c).2.1, (h c).2.2.1, (h c).2.2.2.1, (h c).2.2.2.2⟩, by
    funext g
    obtain ⟨⟨d, p⟩, s⟩ := g
    rcases s with s | s <;> exact s.elim0⟩) (Cert.ReferenceIdeal.Value.run (F := Ideal) m ρ)

end Cert.Moe

end
-- ==== Proof.RefSteps.lean ====
/-
# `RefSteps`: the reference's reads and writes at an entry

The slices the reference takes at a computed start, and its two one-place updates, each given at an entry.
-/
module

public import proofs.«01_k».proof.Proof.Gen.ReferenceIdeal
public import Idealize.ShloMosaic.Lib.Pointwise
public import Idealize.ShloMosaic.Lib.Routing.OpsSet
public import Idealize.ShloMosaic.Lib.Routing.OpsPair

@[expose] public section

noncomputable section

namespace Cert.Moe.Ref

open Cert.ReferenceIdeal Cert.ReferenceIdeal.Gen
open Idealize.ShloMosaic Idealize.ShloMosaic.TcCoe
open scoped BigOperators

variable {α : Type}

/-! ## Slices at a start inside the array -/

theorem slice_choice (X : S256x1.Idx → α) (st : Fin 2 → ℤ) (k : Fin 256) (h0 : st 0 = k.val) (h1 : st 1 = 0) :
    shapeCast S_ (Host.dynamicSlice S1x1 X st sliceFits_S256x1_S1x1) shapeCasts_S1x1_S_ ix0 = X (ix2 k 0) := by
  pointwise
  refine congrArg X (congrArg₂ ix2 (Fin.ext ?_) (Subsingleton.elim _ _))
  have := k.isLt
  exact Host.clampedStart_of_le (s := S256x1) (t := S1x1) rfl st 0 k.val h0 (by show k.val + 1 ≤ 256; omega)

theorem slice_token (X : S256x128.Idx → α) (st : Fin 2 → ℤ) (k : Fin 256) (h0 : st 0 = k.val) (h1 : st 1 = 0) (j : Fin 128) :
    shapeCast S128 (Host.dynamicSlice S1x128 X st sliceFits_S256x128_S1x128) shapeCasts_S1x128_S128 (ix1 j) = X (ix2 k j) := by
  pointwise
  have := k.isLt
  have e0 := Host.clampedStart_of_le (s := S256x128) (t := S1x128) rfl st 0 k.val h0 (by show k.val + 1 ≤ 256; omega)
  have e1 := Host.clampedStart_of_le (s := S256x128) (t := S1x128) rfl st 1 0 h1 (by show 0 + 128 ≤ 128; omega)
  refine congrArg X (congrArg₂ ix2 (Fin.ext ?_) (Fin.ext ?_))
  · exact e0
  · show Host.clampedStart S256x128 S1x128 _ st 1 + j.val = j.val
    rw [e1, Nat.zero_add]

theorem slice_row (X : S256x256.Idx → α) (st : Fin 2 → ℤ) (k : Fin 256) (h0 : st 0 = k.val) (h1 : st 1 = 0) (j : Fin 256) :
    shapeCast S256 (Host.dynamicSlice S1x256 X st sliceFits_S256x256_S1x256) shapeCasts_S1x256_S256 (ix1 j) = X (ix2 k j) := by
  pointwise
  have := k.isLt
  have e0 := Host.clampedStart_of_le (s := S256x256) (t := S1x256) rfl st 0 k.val h0 (by show k.val + 1 ≤ 256; omega)
  have e1 := Host.clampedStart_of_le (s := S256x256) (t := S1x256) rfl st 1 0 h1 (by show 0 + 256 ≤ 256; omega)
  refine congrArg X (congrArg₂ ix2 (Fin.ext ?_) (Fin.ext ?_))
  · exact e0
  · show Host.clampedStart S256x256 S1x256 _ st 1 + j.val = j.val
    rw [e1, Nat.zero_add]

theorem slice_expert (X : S16x128x256.Idx → α) (st : Fin 3 → ℤ) (a : Fin 16) (h0 : st 0 = a.val) (h1 : st 1 = 0) (h2 : st 2 = 0)
    (i : Fin 128) (j : Fin 256) :
    shapeCast S128x256 (Host.dynamicSlice S1x128x256 X st sliceFits_S16x128x256_S1x128x256) shapeCasts_S1x128x256_S128x256 (ix2 i j)
      = X (ix3 a i j) := by
  pointwise
  have := a.isLt
  have e0 := Host.clampedStart_of_le (s := S16x128x256) (t := S1x128x256) rfl st 0 a.val h0 (by show a.val + 1 ≤ 16; omega)
  have e1 := Host.clampedStart_of_le (s := S16x128x256) (t := S1x128x256) rfl st 1 0 h1 (by show 0 + 128 ≤ 128; omega)
  have e2 := Host.clampedStart_of_le (s := S16x128x256) (t := S1x128x256) rfl st 2 0 h2 (by show 0 + 256 ≤ 256; omega)
  refine congrArg X ?_
  congr 1
  · exact Fin.ext e0
  · refine Fin.ext ?_
    show Host.clampedStart S16x128x256 S1x128x256 _ st 1 + i.val = i.val
    rw [e1, Nat.zero_add]
  · refine Fin.ext ?_
    show Host.clampedStart S16x128x256 S1x128x256 _ st 2 + j.val = j.val
    rw [e2, Nat.zero_add]

theorem slice_count (X : S16.Idx → α) (st : Fin 1 → ℤ) (a : Fin 16) (h0 : st 0 = a.val) :
    shapeCast S_ (Host.dynamicSlice S1 X st sliceFits_S16_S1) shapeCasts_S1_S_ ix0 = X (ix1 a) := by
  pointwise
  have := a.isLt
  refine congrArg X (congrArg ix1 (Fin.ext ?_))
  exact Host.clampedStart_of_le (s := S16) (t := S1) rfl st 0 a.val h0 (by show a.val + 1 ≤ 16; omega)

/-! ## The two updates -/

/-- Adding a word at one place of the counts: only that place changes, and none if the place is outside. -/
theorem add_at (x0 : IVec S16 32) (v : IVec S1 32) (u : IVec S_ 32) (a : Fin 16) :
    Host.scatter scatter_S16_S1_S__n_0_0_0 IntOp.addi x0 v u (ix1 a)
      = if (v (ix1 0)).toInt = (a.val : ℤ) then IntOp.addi (x0 (ix1 a)) (u ix0) else x0 (ix1 a) := by
  have hland : ∀ j : S_.Idx, scatter_S16_S1_S__n_0_0_0.resultIdx? j v = some (ix1 a) ↔ (v (ix1 0)).toInt = (a.val : ℤ) := by
    intro j
    rw [Routing.resultIdx?_eq_some]
    have hs : scatter_S16_S1_S__n_0_0_0.start j v 0 = (v (ix1 0)).toInt := by
      unfold ScatterDims.start
      rw [dif_pos (show (0 : Fin 1) ∈ scatter_S16_S1_S__n_0_0_0.scatterDimsToOperandDims from List.mem_singleton.mpr rfl)]
      refine congrArg (fun i => (v i).toInt) (funext fun b => ?_)
      match b with
      | ⟨0, _⟩ => exact Subsingleton.elim (α := Fin 1) _ _
    have hw : scatter_S16_S1_S__n_0_0_0.window j 0 = 0 := rfl
    constructor
    · intro h
      have := h 0
      rw [hs, hw] at this
      simpa using this
    · intro h b
      match b with
      | ⟨0, _⟩ =>
        show scatter_S16_S1_S__n_0_0_0.start j v 0 + (scatter_S16_S1_S__n_0_0_0.window j 0 : ℕ) = _
        rw [hs, hw, h]
        exact add_zero _
  rw [Routing.scatter_at]
  simp only [hland]
  have hn : List.finRange S_.numel = [(0 : Fin 1)] := rfl
  rw [hn]
  show (if _ then IntOp.addi (x0 (ix1 a)) (u (S_.rowMajor.symm (0 : Fin 1))) else _) = _
  rw [show S_.rowMajor.symm (0 : Fin 1) = ix0 from funext fun b => b.elim0]

/-- Writing one row of the result: that row changes, no other. -/
theorem row_at (x0 : S256x256.Idx → α) (v : IVec S1 32) (u : S256.Idx → α) (k : Fin 256) (hk : (v (ix1 0)).toInt = (k.val : ℤ)) (t n : Fin 256) :
    Host.scatter scatter_S256x256_S1_S256_0_0_0_0 (fun _ b => b) x0 v u (ix2 t n) = if t = k then u (ix1 n) else x0 (ix2 t n) := by
  have hland : ∀ j : S256.Idx, scatter_S256x256_S1_S256_0_0_0_0.resultIdx? j v = some (ix2 t n) ↔ t = k ∧ j 0 = n := by
    intro j
    rw [Routing.resultIdx?_eq_some]
    have hs0 : scatter_S256x256_S1_S256_0_0_0_0.start j v 0 = (k.val : ℤ) := by
      unfold ScatterDims.start
      rw [dif_pos (show (0 : Fin 2) ∈ scatter_S256x256_S1_S256_0_0_0_0.scatterDimsToOperandDims from List.mem_singleton.mpr rfl), ← hk]
      refine congrArg (fun i => (v i).toInt) (funext fun b => ?_)
      match b with
      | ⟨0, _⟩ => exact Subsingleton.elim (α := Fin 1) _ _
    have hs1 : scatter_S256x256_S1_S256_0_0_0_0.start j v 1 = 0 := rfl
    have hw0 : scatter_S256x256_S1_S256_0_0_0_0.window j 0 = 0 := rfl
    have hw1 : scatter_S256x256_S1_S256_0_0_0_0.window j 1 = (j 0).val := rfl
    constructor
    · intro h
      have h0 := h 0
      have h1 := h 1
      rw [hs0, hw0] at h0
      rw [hs1, hw1] at h1
      have h0 : (k.val : ℤ) + 0 = t.val := h0
      have h1 : (0 : ℤ) + ((j 0).val : ℤ) = n.val := h1
      exact ⟨Fin.ext (by omega), Fin.ext (by omega)⟩
    · rintro ⟨rfl, rfl⟩ b
      match b with
      | ⟨0, _⟩ =>
        show scatter_S256x256_S1_S256_0_0_0_0.start j v 0 + (scatter_S256x256_S1_S256_0_0_0_0.window j 0 : ℕ) = _
        rw [hs0, hw0]
        exact add_zero _
      | ⟨1, _⟩ =>
        show scatter_S256x256_S1_S256_0_0_0_0.start j v 1 + (scatter_S256x256_S1_S256_0_0_0_0.window j 1 : ℕ) = _
        rw [hs1, hw1]
        exact zero_add _
  by_cases h : t = k
  · rw [if_pos h]
    refine Routing.scatter_set_hit _ x0 v u _ _ (fun j hj => congrArg u ?_) (ix1 n) ((hland _).mpr ⟨h, rfl⟩)
    funext b
    match b with
    | ⟨0, _⟩ => exact ((hland j).mp hj).2
  · rw [if_neg h]
    exact Routing.scatter_set_miss _ x0 v u _ fun j hj => h ((hland j).mp hj).1

end Cert.Moe.Ref
end
-- ==== Proof.Masks.lean ====
/-
# `Masks`: which token belongs to which place

The kernel picks tokens with matrices of zeros and ones, read off integer columns. Here every such matrix is given
at an entry: a token's place among its expert's tokens (`place`), the matrix that collects a device's twenty-four
tokens, and the matrix that distributes the experts' rows.
-/
module

public import proofs.«01_k».proof.Proof.Content
public import Idealize.ShloMosaic.Lib.Pointwise

@[expose] public section

noncomputable section

namespace Cert.Moe

open Cert.KernelIdeal Cert.KernelIdeal.Gen
open Idealize.ShloMosaic Idealize.ShloMosaic.TcCoe
open scoped BigOperators

/-! ## Zeros and ones -/

/-- One where `P` holds, zero elsewhere. -/
def one? (P : Prop) [Decidable P] : EReal := if P then 1 else 0

theorem one?_real (P : Prop) [Decidable P] : one? P = ((if P then (1 : ℝ) else 0 : ℝ) : EReal) := by
  unfold one?; split <;> rfl

theorem one?_congr {P Q : Prop} [Decidable P] [Decidable Q] (h : P ↔ Q) : one? P = one? Q := by
  unfold one?; simp only [h]

/-- A bit, widened and read as a number. -/
theorem bit_value (b : BitVec 1) : (FloatOps.sitofp (F := Idealize.ShloMosaic.Ideal) .f32 (BitVec.setWidth 32 b) : EReal) = one? (b = 1#1) := by
  show (((BitVec.setWidth 32 b).toInt : ℝ) : EReal) = _
  rw [one?_real]
  revert b
  have : ∀ b : BitVec 1, (BitVec.setWidth 32 b).toInt = if b = 1#1 then 1 else 0 := by decide
  intro b
  rw [this]
  split <;> simp

theorem cmpi_eq_one {w : Nat} (a b : BitVec w) : IntOp.cmpi .eq a b = 1#1 ↔ a = b := by
  show BitVec.ofBool (a == b) = 1#1 ↔ _
  by_cases h : a = b
  · subst h; simp
  · have : (a == b) = false := by simpa using h
    simp [this, h]

theorem andi_one (a b : BitVec 1) : IntOp.andi a b = 1#1 ↔ a = 1#1 ∧ b = 1#1 := by
  show a &&& b = 1#1 ↔ _
  revert a b
  decide

/-- Two equalities of words, joined. -/
theorem pair_value {a b A B A' B' : BitVec 32} (hA : A = A') (hB : B = B') :
    (FloatOps.sitofp (F := Idealize.ShloMosaic.Ideal) .f32 (BitVec.setWidth 32 (IntOp.andi (IntOp.cmpi .eq a A) (IntOp.cmpi .eq b B))) : EReal)
      = one? (a = A' ∧ b = B') := by
  rw [bit_value, hA, hB]
  exact one?_congr (by rw [andi_one, cmpi_eq_one, cmpi_eq_one])

/-- The order of two indices as the kernel compares them. -/
theorem later_one (t s : Fin 256) : IntOp.cmpi .sgt (BitVec.ofNat 32 t.val) (BitVec.ofNat 32 s.val) = 1#1 ↔ s < t := by
  have h : ∀ n : Fin 256, (BitVec.ofNat 32 n.val).toInt = n.val := fun n => by
    have := n.isLt
    rw [BitVec.toInt_eq_toNat_of_lt (by rw [BitVec.toNat_ofNat]; omega), BitVec.toNat_ofNat]; omega
  show BitVec.ofBool (BitVec.slt (BitVec.ofNat 32 s.val) (BitVec.ofNat 32 t.val)) = 1#1 ↔ _
  rw [BitVec.slt_eq_decide, h, h]
  by_cases hst : s < t
  · have : (s.val : ℤ) < t.val := by exact_mod_cast hst
    simp [this, hst]
  · have : ¬ (s.val : ℤ) < t.val := by exact_mod_cast hst
    simp [this, hst]

/-! ## A token's place among its expert's -/

/-- How many tokens before `t` chose `t`'s expert; zero for a token that chose no expert. -/
def place (e : Fin 256 → BitVec 32) (t : Fin 256) : ℕ :=
  if (e t).toNat < 16 then (Finset.univ.filter fun s : Fin 256 => s < t ∧ e s = e t).card else 0

theorem place_lt (e : Fin 256 → BitVec 32) (t : Fin 256) : place e t < 256 := by
  unfold place
  split
  · refine (Finset.card_lt_card (t := Finset.univ) ?_).trans_eq (by simp)
    refine Finset.ssubset_univ_iff.mpr fun h => ?_
    have : t ∈ (Finset.univ.filter fun s : Fin 256 => s < t ∧ e s = e t) := by rw [h]; exact Finset.mem_univ t
    simp at this
  · decide

/-- Two tokens of one expert that hold the same place are one token. -/
theorem place_inj (e : Fin 256 → BitVec 32) (t s : Fin 256) (he : e s = e t) (hv : (e t).toNat < 16) (h : place e s = place e t) : s = t := by
  have key : ∀ a b : Fin 256, e a = e b → (e b).toNat < 16 → a < b → place e a < place e b := by
    intro a b hab hb hlt
    unfold place
    rw [hab, if_pos hb, if_pos hb]
    refine Finset.card_lt_card (Finset.ssubset_iff_subset_ne.mpr ⟨fun i hi => ?_, fun hh => ?_⟩)
    · simp only [Finset.mem_filter, Finset.mem_univ, true_and] at hi ⊢
      exact ⟨hi.1.trans hlt, hi.2⟩
    · have : a ∈ (Finset.univ.filter fun i : Fin 256 => i < b ∧ e i = e b) := by simp [hlt, hab]
      rw [← hh] at this
      simp at this
  rcases lt_trichotomy s t with hl | hl | hl
  · exact absurd h (key s t he hv hl).ne
  · exact hl
  · exact absurd h (key t s he.symm (he ▸ hv) hl).ne'

/-- A sum of reals, in the extended reals. -/
theorem sum_real {ι : Type} [Fintype ι] (f : ι → ℝ) : ∑ i, ((f i : ℝ) : EReal) = ((∑ i, f i : ℝ) : EReal) := by
  classical
  refine Finset.induction_on (Finset.univ : Finset ι) (by simp) fun a s ha ih => ?_
  rw [Finset.sum_insert ha, Finset.sum_insert ha, ih, EReal.coe_add]

/-- A small natural number, back from its float. -/
theorem fptosi_nat (n : ℕ) (h : n < 256) : (FloatOps.fptosi (F := Idealize.ShloMosaic.Ideal) (φ := .f32) 32 ((n : ℝ) : EReal)) = BitVec.ofNat 32 n := by
  show BitVec.ofInt 32 (max _ (min _ (if (0 : ℝ) ≤ (n : ℝ) then ⌊(n : ℝ)⌋ else ⌈(n : ℝ)⌉))) = _
  rw [if_pos (Nat.cast_nonneg n), Int.floor_natCast]
  rw [min_eq_right (by norm_num; omega), max_eq_right (by norm_num)]
  exact BitVec.ofInt_natCast _ _

/-- The kernel's rank column: each token's place. -/
theorem rank_at (v : Vec Idealize.ShloMosaic.Ideal S256x1 .i32) (t : Fin 256) :
    k0_pay3 (F := Idealize.ShloMosaic.Ideal) v (ix2 t 0) = BitVec.ofNat 32 (place (fun s => v (ix2 s 0)) t) := by
  pointwise [k0_pay3, k0_pay2]
  rw [← fptosi_nat _ (place_lt _ t)]
  refine congrArg _ ?_
  simp only [bit_value, cmpi_eq_one, later_one, one?_real, ← EReal.coe_mul, sum_real]
  refine congrArg _ ?_
  simp only [ite_mul, one_mul, zero_mul, mul_ite, mul_one, mul_zero, ← ite_and]
  unfold place
  by_cases hv : (v (ix2 t 0)).toNat < 16
  · have hself : BitVec.ofNat 32 (v (ix2 t 0)).toNat = v (ix2 t 0) := by simp
    rw [if_pos hv, Finset.sum_eq_single (⟨(v (ix2 t 0)).toNat, hv⟩ : Fin 16)]
    · rw [hself, if_pos rfl, Finset.sum_boole]
      refine congrArg (fun n : ℕ => (n : ℝ)) (congrArg Finset.card ?_)
      ext s
      simp only [Finset.mem_filter, Finset.mem_univ, true_and]
      exact and_comm
    · intro b _ hb
      refine if_neg fun h => hb (Fin.ext ?_)
      show b.val = (v (ix2 t 0)).toNat
      rw [h, BitVec.toNat_ofNat]
      have := b.isLt
      omega
    · intro h
      exact absurd (Finset.mem_univ _) h
  · rw [if_neg hv]
    refine (Finset.sum_eq_zero fun b _ => if_neg fun h => hv ?_).trans Nat.cast_zero.symm
    rw [h, BitVec.toNat_ofNat]
    have := b.isLt
    omega

/-! ## The two matrices -/

abbrev colE : IVec S256x192 32 := (k0_pay16 k0_pay12 (Scalar.select (Scalar.cmpi .eq 24#32 0#32) 1#32 24#32) k0_pay13 k0_pay14 k0_pay15
      (Scalar.cmpi .slt (Scalar.select (Scalar.cmpi .eq 24#32 0#32) 1#32 24#32) 0#32))

/-- The expert of each of the 192 places. -/
theorem colE_at (t : Fin 256) (j : Fin 192) : colE (ix2 t j) = BitVec.ofNat 32 (j.val / 12) := by
  pointwise [colE, k0_pay16, k0_pay12, k0_pay13, k0_pay14, k0_pay15]
  revert j
  decide +kernel

/-- The distributing matrix: one at the place of each token's row. -/
theorem spread_at (v33 v51 : IVec S256x1 32) (t : Fin 256) (j : Fin 192) :
    k0_pay20 (F := Idealize.ShloMosaic.Ideal) v33 v51 colE
      (k0_pay17 (iota .tc S256x192 32 [1] iota_S256x192_d1_w32))
      (k0_pay18 (iota .tc S256x192 32 [1] iota_S256x192_d1_w32))
      (k0_pay19 (iota .tc S256x192 32 [1] iota_S256x192_d1_w32)) (ix2 t j)
      = one? (v33 (ix2 t 0) = BitVec.ofNat 32 (j.val / 12) ∧ v51 (ix2 t 0) = BitVec.ofNat 32 (j.val % 12)) := by
  pointwise [k0_pay20, k0_pay17, k0_pay18, k0_pay19]
  refine pair_value (colE_at t j) ?_
  revert j
  decide +kernel

/-- The collected tokens of device `c`: at each of its 24 places, the sum of the tokens that belong there. -/
theorem collect_at (v33 v51 : IVec S256x1 32) (c : Dev nD) (x : Vec Idealize.ShloMosaic.Ideal S256x128 .bf16) (s : Fin 24) (k : Fin 128) :
    k0_pay6 (F := Idealize.ShloMosaic.Ideal) v33 v51 (iota .tc S256x24 32 [1] iota_S256x24_d1_w32) (Scalar.muli (myWord c) 2#32) 12#32
      k0_pay4 k0_pay5 (Scalar.extui (Scalar.cmpi .sgt 12#32 0#32)) 0#32 x (ix2 s k)
      = ∑ t : Fin 256, one? (v33 (ix2 t 0) = BitVec.ofNat 32 (2 * c.val + s.val / 12) ∧ v51 (ix2 t 0) = BitVec.ofNat 32 (s.val % 12)) * x (ix2 t k) := by
  pointwise [k0_pay6, k0_pay4, k0_pay5]
  refine Finset.sum_congr rfl fun t _ => congrArg (· * _) (pair_value ?_ ?_)
  · revert c s
    decide +kernel
  · revert s
    decide +kernel

end Cert.Moe
end
-- ==== Proof.KernelValue.lean ====
/-
# `KernelValue`: what the kernel writes

The kernel's result at an entry: a token among the first twelve of its expert gets its product with the expert's
matrix, every other token zeros.
-/
module

public import proofs.«01_k».proof.Proof.Masks

@[expose] public section

noncomputable section

namespace Cert.Moe

open Cert.KernelIdeal Cert.KernelIdeal.Gen
open Idealize.ShloMosaic Idealize.ShloMosaic.TcCoe
open scoped BigOperators

local notation "𝕀" => Idealize.ShloMosaic.Ideal

theorem pay9_at (a : FVec 𝕀 S12x128 .bf16) (w : Vec 𝕀 S1x128x256 .bf16) (r : Fin 12) (n : Fin 256) :
    k0_pay9 (F := 𝕀) a (k0_pay8 w) (ix2 r n) = ∑ k : Fin 128, a (ix2 r k) * w (ix3 0 k n) := by
  pointwise [k0_pay9, k0_pay8]

theorem pay10_at (a : FVec 𝕀 S24x128 .f32) (w : Vec 𝕀 S1x128x256 .bf16) (r : Fin 12) (n : Fin 256) :
    k0_pay10 (F := 𝕀) a w (ix2 r n) = ∑ k : Fin 128, a (ix2 ⟨12 + r.val, by omega⟩ k) * w (ix3 0 k n) := by
  pointwise [k0_pay10]

theorem pay1_at (a : FVec 𝕀 S256x192 .bf16) (w : Vec 𝕀 S192x256 .bf16) (t n : Fin 256) :
    k0_pay1 (F := 𝕀) a w (ix2 t n) = ∑ j : Fin 192, a (ix2 t j) * w (ix2 j n) := by
  pointwise [k0_pay1]

theorem pay2_at (v : Vec 𝕀 S256x1 .i32) : k0_pay2 (F := 𝕀) v = v := by
  exact shapeCast_self _ _

/-! ## The textbook result -/

/-- A token among the first twelve of its expert times the expert's matrix; zero for every other token. -/
def routed (e : Fin 256 → BitVec 32) (x : Fin 256 → Fin 128 → EReal) (w : Fin 16 → Fin 128 → Fin 256 → EReal) (t n : Fin 256) : EReal :=
  if h : (e t).toNat < 16 ∧ place e t < 12 then ∑ k : Fin 128, x t k * w ⟨(e t).toNat, h.1⟩ k n else 0

theorem word_eq {a b : ℕ} (ha : a < 256) (hb : b < 256) : BitVec.ofNat 32 a = BitVec.ofNat 32 b ↔ a = b := by
  refine ⟨fun h => ?_, fun h => h ▸ rfl⟩
  have := congrArg BitVec.toNat h
  rw [BitVec.toNat_ofNat, BitVec.toNat_ofNat] at this
  omega

theorem word_nat (v : BitVec 32) {a : ℕ} (ha : a < 256) : v = BitVec.ofNat 32 a ↔ v.toNat = a := by
  refine ⟨fun h => ?_, fun h => ?_⟩
  · rw [h, BitVec.toNat_ofNat]; omega
  · rw [← h]; simp

/-- At the place of token `t` the collecting sum is `t`'s row alone. -/
theorem collect_one (e : Fin 256 → BitVec 32) (x : Fin 256 → EReal) (t : Fin 256) (a r : ℕ) (ha : a < 16) (hr : r < 12)
    (hea : (e t).toNat = a) (hpr : place e t = r) :
    ∑ s : Fin 256, one? (e s = BitVec.ofNat 32 a ∧ BitVec.ofNat 32 (place e s) = BitVec.ofNat 32 r) * x s = x t := by
  have hc : ∀ s, (e s = BitVec.ofNat 32 a ∧ BitVec.ofNat 32 (place e s) = BitVec.ofNat 32 r) ↔ s = t := by
    intro s
    rw [word_nat _ (by omega), word_eq (place_lt e s) (by omega)]
    refine ⟨fun h => place_inj e t s (BitVec.eq_of_toNat_eq (by omega)) (by omega) (by omega), fun h => ?_⟩
    subst h
    exact ⟨hea, hpr⟩
  rw [Finset.sum_eq_single t]
  · rw [one?_congr (hc t), one?, if_pos rfl, one_mul]
  · intro s _ hs
    rw [one?_congr (hc s), one?, if_neg hs, zero_mul]
  · intro h
    exact absurd (Finset.mem_univ _) h

/-- Collecting, multiplying and distributing is the textbook result. -/
theorem routed_eq (e : Fin 256 → BitVec 32) (x : Fin 256 → Fin 128 → EReal) (w : Fin 16 → Fin 128 → Fin 256 → EReal) (t n : Fin 256) :
    ∑ j : Fin 192, one? (e t = BitVec.ofNat 32 (j.val / 12) ∧ BitVec.ofNat 32 (place e t) = BitVec.ofNat 32 (j.val % 12))
      * (∑ k : Fin 128, (∑ s : Fin 256, one? (e s = BitVec.ofNat 32 (j.val / 12) ∧ BitVec.ofNat 32 (place e s) = BitVec.ofNat 32 (j.val % 12)) * x s k)
          * w ⟨j.val / 12, by omega⟩ k n)
      = routed e x w t n := by
  have hc : ∀ j : Fin 192, (e t = BitVec.ofNat 32 (j.val / 12) ∧ BitVec.ofNat 32 (place e t) = BitVec.ofNat 32 (j.val % 12))
      ↔ (e t).toNat = j.val / 12 ∧ place e t = j.val % 12 := by
    intro j
    rw [word_nat _ (by omega), word_eq (place_lt e t) (by omega)]
  unfold routed
  by_cases h : (e t).toNat < 16 ∧ place e t < 12
  · rw [dif_pos h]
    rw [Finset.sum_eq_single (⟨12 * (e t).toNat + place e t, by omega⟩ : Fin 192)]
    · rw [one?_congr (hc _), one?, if_pos (by show _ = (12 * (e t).toNat + place e t) / 12 ∧ _ = (12 * (e t).toNat + place e t) % 12; omega), one_mul]
      refine Finset.sum_congr rfl fun k _ => ?_
      rw [collect_one e (fun s => x s k) t _ _ (by omega) (by omega) (by show _ = (12 * (e t).toNat + place e t) / 12; omega)
        (by show _ = (12 * (e t).toNat + place e t) % 12; omega)]
      refine congrArg (fun a => x t k * w a k n) (Fin.ext ?_)
      show (12 * (e t).toNat + place e t) / 12 = (e t).toNat
      omega
    · intro j _ hj
      rw [one?_congr (hc _), one?, if_neg (fun hh => hj (Fin.ext (by show j.val = 12 * (e t).toNat + place e t; omega))), zero_mul]
    · intro hh
      exact absurd (Finset.mem_univ _) hh
  · rw [dif_neg h]
    refine Finset.sum_eq_zero fun j _ => ?_
    have := j.isLt
    rw [one?_congr (hc _), one?, if_neg (fun hh => h (by omega)), zero_mul]

/-! ## The kernel's result -/

variable (m : (ℓ : Loc nD τ sig) → Buf (Elt 𝕀) ℓ)

omit m in
/-- Expert `l` of device `c` is one of the sixteen. -/
theorem expert_lt (c : Dev nD) (l : Fin 2) : 2 * c.val + l.val < 16 := by
  have : c.val < 8 := c.isLt
  omega

/-- The device's two matrices as the kernel loads them. -/
theorem load0_at (c : Dev nD) (k : Fin 128) (n : Fin 256) :
    wM.view.readAt (Elt 𝕀) wr0.toLoadRect (wAt m c) (ix3 0 k n) = wAt m c (ix3 0 k n) := by
  refine congrArg (wAt m c) (funext fun a => Fin.ext ?_)
  match a with
  | ⟨0, _⟩ => rfl
  | ⟨1, _⟩ => show 0 + 1 * k.val = k.val; omega
  | ⟨2, _⟩ => show 0 + 1 * n.val = n.val; omega

theorem load1_at (c : Dev nD) (k : Fin 128) (n : Fin 256) :
    wM.view.readAt (Elt 𝕀) wr1.toLoadRect (wAt m c) (ix3 0 k n) = wAt m c (ix3 1 k n) := by
  refine congrArg (wAt m c) (funext fun a => Fin.ext ?_)
  match a with
  | ⟨0, _⟩ => rfl
  | ⟨1, _⟩ => show 0 + 1 * k.val = k.val; omega
  | ⟨2, _⟩ => show 0 + 1 * n.val = n.val; omega

variable (e : Fin 256 → BitVec 32) (x : Fin 256 → Fin 128 → EReal) (w : Fin 16 → Fin 128 → Fin 256 → EReal)
variable (hi : ∀ c t, iAt m c (ix2 t 0) = e t) (hx : ∀ c t k, xAt m c (ix2 t k) = x t k)
variable (hw : ∀ (c : Dev nD) (l : Fin 2) k n, wAt m c (ix3 l k n) = w ⟨2 * c.val + l.val, expert_lt c l⟩ k n)
include hi hx

theorem gathered_at (c : Dev nD) (s : Fin 24) (k : Fin 128) :
    gathered m c (ix2 s k) = ∑ t : Fin 256, one? (e t = BitVec.ofNat 32 (2 * c.val + s.val / 12)
      ∧ BitVec.ofNat 32 (place e t) = BitVec.ofNat 32 (s.val % 12)) * x t k := by
  refine (collect_at _ _ c _ s k).trans (Finset.sum_congr rfl fun t _ => ?_)
  rw [pay2_at, rank_at, hx]
  simp only [hi]

theorem gatheredTop_at (c : Dev nD) (r : Fin 12) (k : Fin 128) :
    gatheredTop m c (ix2 r k) = gathered m c (ix2 ⟨r.val, by omega⟩ k) := by
  pointwise [gatheredTop, k0_pay7, gathered]

include hw

/-- The block a device sends, at its row `s`. -/
theorem send_at (c : Dev nD) (s : Fin 24) (n : Fin 256) :
    sendAt m c (ix2 s n) = ∑ k : Fin 128, (∑ t : Fin 256, one? (e t = BitVec.ofNat 32 (2 * c.val + s.val / 12)
      ∧ BitVec.ofNat 32 (place e t) = BitVec.ofNat 32 (s.val % 12)) * x t k)
        * w ⟨2 * c.val + s.val / 12, by have : c.val < 8 := c.isLt; omega⟩ k n := by
  by_cases h : s.val < 12
  · refine (dif_pos h).trans ((congrArg (topAt m c) (ix2_eq_valueIdx (n0 := 12) (n1 := 256) ⟨s.val, h⟩ n).symm).trans ?_)
    refine (pay9_at _ _ ⟨s.val, h⟩ n).trans (Finset.sum_congr rfl fun k _ => ?_)
    rw [gatheredTop_at m e x hi hx, gathered_at m e x hi hx, load0_at, hw]
    refine congrArg₂ (· * ·) rfl (congrArg (fun a => w a k n) (Fin.ext ?_))
    show 2 * c.val + 0 = 2 * c.val + s.val / 12
    omega
  · refine (dif_neg h).trans ((congrArg (botAt m c) (ix2_eq_valueIdx (n0 := 12) (n1 := 256) ⟨s.val - 12, by omega⟩ n).symm).trans ?_)
    refine (pay10_at _ _ ⟨s.val - 12, by omega⟩ n).trans (Finset.sum_congr rfl fun k _ => ?_)
    have hs : (⟨12 + (s.val - 12), by omega⟩ : Fin 24) = s := Fin.ext (by show 12 + (s.val - 12) = s.val; omega)
    rw [hs, gathered_at m e x hi hx, load1_at, hw]
    refine congrArg₂ (· * ·) rfl (congrArg (fun a => w a k n) (Fin.ext ?_))
    show 2 * c.val + 1 = 2 * c.val + s.val / 12
    omega

/-- The received rows: one for each expert and place. -/
theorem recv_at (j : Fin 192) (n : Fin 256) :
    recvAll m (ix2 j n) = ∑ k : Fin 128, (∑ t : Fin 256, one? (e t = BitVec.ofNat 32 (j.val / 12)
      ∧ BitVec.ofNat 32 (place e t) = BitVec.ofNat 32 (j.val % 12)) * x t k) * w ⟨j.val / 12, by omega⟩ k n := by
  have hj : 2 * (j.val / 24) + j.val % 24 / 12 = j.val / 12 := by omega
  have hj' : j.val % 24 % 12 = j.val % 12 := by omega
  refine Eq.trans (b := sendAt m (rowDev j.val j.isLt) (ix2 (⟨j.val % 24, by omega⟩ : Fin 24) n)) ?_ ?_
  · rw [ix2_eq_valueIdx, ix2_eq_valueIdx]; rfl
  · rw [send_at m e x w hi hx hw]
    simp only [rowDev, hj, hj']

/-- **The kernel's result at an entry.** -/
theorem out_at (c : Dev nD) (t n : Fin 256) : outAt m c (ix2 t n) = routed e x w t n := by
  rw [← routed_eq]
  refine (pay1_at _ _ t n).trans (Finset.sum_congr rfl fun j _ => ?_)
  rw [recv_at m e x w hi hx hw]
  refine congrArg (· * _) ((spread_at _ _ t j).trans ?_)
  rw [pay2_at, rank_at]
  simp only [hi]

end Cert.Moe
end
-- ==== Proof.RefTrip.lean ====
/-
# `RefTrip`: one trip of the reference's loop

Trip `k` reads the choice of token `k`, decides whether the chosen expert still has room, adds that bit to the expert's
count, and writes row `k` of the result.
-/
module

public import proofs.«01_k».proof.Proof.RefSteps
public import proofs.«01_k».proof.Proof.KernelValue
public import proofs.«01_k».proof.Proof.Gen.ReferenceIdeal.Run

@[expose] public section

noncomputable section

namespace Cert.Moe.Ref

open Cert.ReferenceIdeal Cert.ReferenceIdeal.Gen Cert.ReferenceIdeal.Value
open Idealize.ShloMosaic Idealize.ShloMosaic.TcCoe
open scoped BigOperators

local notation "𝕀" => Idealize.ShloMosaic.Ideal

/-! ## Words -/

theorem slt_one (a b : BitVec 32) : IntOp.cmpi .slt a b = 1#1 ↔ a.toInt < b.toInt := by
  show BitVec.ofBool (a.slt b) = 1#1 ↔ _
  rw [← BitVec.slt_iff_toInt_lt]
  cases a.slt b <;> simp

theorem sge_one (a b : BitVec 32) : IntOp.cmpi .sge a b = 1#1 ↔ b.toInt ≤ a.toInt := by
  show BitVec.ofBool (b.sle a) = 1#1 ↔ _
  rw [← BitVec.sle_iff_toInt_le]
  cases b.sle a <;> simp

theorem small_toInt {w : BitVec 32} (h : w.toNat < 2 ^ 31) : w.toInt = (w.toNat : ℤ) := by
  rw [BitVec.toInt_eq_toNat_cond, if_pos (by omega)]

theorem nat_toInt {n : ℕ} (h : n < 256) : (BitVec.ofNat 32 n).toInt = (n : ℤ) := by
  have hn : (BitVec.ofNat 32 n).toNat = n := by rw [BitVec.toNat_ofNat]; exact Nat.mod_eq_of_lt (by omega)
  rw [small_toInt (by omega), hn]

theorem bit_zero {b : BitVec 1} (h : ¬ b = 1#1) : BitVec.setWidth 32 b = 0#32 := by
  revert b; decide

/-- A word read as signed lies in `[0,16)` exactly if it does read as unsigned. -/
theorem valid_iff (w : BitVec 32) : (0 ≤ w.toInt ∧ w.toInt < 16) ↔ w.toNat < 16 := by
  have := w.isLt
  rw [BitVec.toInt_eq_toNat_cond]
  split <;> omega

/-- A start that is not negative is not moved. -/
theorem start_at (c d : IVec S_ 32) (i : S_.Idx) (h : (c i).toNat < 2 ^ 31) :
    select (cmpi .slt c (constantI S_ 32 0#32)) d c i = c i := by
  show (if IntOp.cmpi .slt (c i) 0#32 = 1#1 then _ else _) = _
  rw [if_neg]
  rw [slt_one, small_toInt h]
  show ¬ ((c i).toNat : ℤ) < 0
  omega

/-! ## A trip -/

variable (V : Valuation τ sig (Elt 𝕀)) (k : Fin 256) (e : Fin 256 → BitVec 32)
variable (hk : ∀ i : S_.Idx, (V (Proc.devRef .tc main_v2_4) : IVec S_ 32) i = BitVec.ofNat 32 k.val)
variable (he : ∀ t : Fin 256, (V (Proc.devRef .tc main_v2_0) : IVec S256x1 32) (ix2 t 0) = e t)

include hk in
theorem ctr_start (d : IVec S_ 32) (i : S_.Idx) :
    (select (cmpi .slt (V (Proc.devRef .tc main_v2_4) : IVec S_ 32) (constantI S_ 32 0#32)) d (V (Proc.devRef .tc main_v2_4) : IVec S_ 32) i).toInt
      = (k.val : ℤ) := by
  have := k.isLt
  have h2 : (BitVec.ofNat 32 k.val).toInt = (k.val : ℤ) := nat_toInt this
  rw [start_at, hk, h2]
  rw [hk, BitVec.toNat_ofNat]
  exact lt_of_le_of_lt (Nat.mod_le _ _) (by omega)

include hk he in
theorem choice_at (i : S_.Idx) : (res_main_while0b_v12 V : IVec S_ 32) i = e k := by
  rw [show i = ix0 from funext fun b => b.elim0]
  exact (slice_choice (V (Proc.devRef .tc main_v2_0) : IVec S256x1 32) _ k (ctr_start V k hk _ _) rfl).trans (he k)

/-- Whether token `k` is taken, given the counts so far. -/
def taken (cnt : Fin 16 → BitVec 32) : Prop := ∃ h : (e k).toNat < 16, (cnt ⟨(e k).toNat, h⟩).toInt < 12

variable (cnt : Fin 16 → BitVec 32) (hc : ∀ a : Fin 16, (V (Proc.devRef .tc main_v2_5) : IVec S16 32) (ix1 a) = cnt a)

include hk he in
theorem choice_start (hv : (e k).toNat < 16) (d : IVec S_ 32) (i : S_.Idx) :
    (select (cmpi .slt (res_main_while0b_v12 V : IVec S_ 32) (constantI S_ 32 0#32)) d (res_main_while0b_v12 V : IVec S_ 32) i).toInt
      = ((e k).toNat : ℤ) := by
  rw [start_at _ _ _ (by rw [choice_at V k e hk he]; omega), choice_at V k e hk he, small_toInt (by omega)]

include hk he hc in
theorem take_one (i : S_.Idx) : (res_main_while0b_v22 V : IVec S_ 1) i = 1#1 ↔ taken k e cnt := by
  rw [show i = ix0 from funext fun b => b.elim0]
  have hread := choice_at V k e hk he ix0
  have hsplit : (res_main_while0b_v22 V : IVec S_ 1) ix0 = 1#1 ↔
      ((0 ≤ (e k).toInt ∧ (e k).toInt < 16) ∧
        IntOp.cmpi .slt (shapeCast S_ (Host.dynamicSlice S1 (V (Proc.devRef .tc main_v2_5) : IVec S16 32)
          (fun k => (((![select (cmpi .slt (res_main_while0b_v12 V) (constantI S_ 32 0#32)) (addi (res_main_while0b_v12 V) (constantI S_ 32 16#32)) (res_main_while0b_v12 V)] : Fin 1 → IVec S_ 32)) k (Shape.Idx.first h_S_)).toInt)
          sliceFits_S16_S1) shapeCasts_S1_S_ ix0) 12#32 = 1#1) := by
    show IntOp.andi (IntOp.andi (IntOp.cmpi .sge ((res_main_while0b_v12 V : IVec S_ 32) ix0) 0#32)
      (IntOp.cmpi .slt ((res_main_while0b_v12 V : IVec S_ 32) ix0) 16#32)) _ = 1#1 ↔ _
    rw [andi_one, andi_one, hread, sge_one, slt_one]
    rfl
  rw [hsplit, valid_iff, taken]
  refine ⟨fun ⟨hv, hl⟩ => ⟨hv, ?_⟩, fun ⟨hv, hl⟩ => ⟨hv, ?_⟩⟩
  · rw [slice_count _ _ ⟨(e k).toNat, hv⟩ (choice_start V k e hk he hv _ _), hc, slt_one] at hl
    exact hl
  · rw [slice_count _ _ ⟨(e k).toNat, hv⟩ (choice_start V k e hk he hv _ _), hc, slt_one]
    exact hl

open Classical in
include hk he hc in
/-- The counts after a trip. -/
theorem counts_step (a : Fin 16) :
    (step_main_v2_5 V : IVec S16 32) (ix1 a) = if taken k e cnt ∧ (e k).toNat = a.val then cnt a + 1#32 else cnt a := by
  have hadd := add_at (V (Proc.devRef .tc main_v2_5) : IVec S16 32)
    (broadcastInDim S1 ![] bcast_S_S1 (select (cmpi .slt (res_main_while0b_v12 V : IVec S_ 32) (constantI S_ 32 0#32))
      (addi (res_main_while0b_v12 V : IVec S_ 32) (constantI S_ 32 16#32)) (res_main_while0b_v12 V : IVec S_ 32)))
    (extui 32 (res_main_while0b_v22 V : IVec S_ 1) natLt_1_32) a
  refine hadd.trans ?_
  rw [hc]
  by_cases ht : taken k e cnt
  · have hone : extui 32 (res_main_while0b_v22 V : IVec S_ 1) natLt_1_32 ix0 = 1#32 := by
      show BitVec.setWidth 32 ((res_main_while0b_v22 V : IVec S_ 1) ix0) = 1#32
      rw [(take_one V k e hk he cnt hc ix0).mpr ht]; rfl
    have hst := choice_start V k e hk he ht.1 (addi (res_main_while0b_v12 V : IVec S_ 32) (constantI S_ 32 16#32)) ix0
    have hst' : (broadcastInDim S1 ![] bcast_S_S1 (select (cmpi .slt (res_main_while0b_v12 V : IVec S_ 32) (constantI S_ 32 0#32))
        (addi (res_main_while0b_v12 V : IVec S_ 32) (constantI S_ 32 16#32)) (res_main_while0b_v12 V : IVec S_ 32)) (ix1 0)).toInt = ((e k).toNat : ℤ) := by
      rw [← hst]
      exact congrArg (fun i => (select (cmpi .slt (res_main_while0b_v12 V : IVec S_ 32) (constantI S_ 32 0#32))
        (addi (res_main_while0b_v12 V : IVec S_ 32) (constantI S_ 32 16#32)) (res_main_while0b_v12 V : IVec S_ 32) i).toInt) (funext fun b => b.elim0)
    rw [hst', hone]
    simp only [ht, true_and, Nat.cast_inj]
    rfl
  · have hzero : extui 32 (res_main_while0b_v22 V : IVec S_ 1) natLt_1_32 ix0 = 0#32 := by
      show BitVec.setWidth 32 ((res_main_while0b_v22 V : IVec S_ 1) ix0) = 0#32
      have hn := mt (take_one V k e hk he cnt hc ix0).mp ht
      exact bit_zero hn
    rw [hzero, if_neg (show ¬(taken k e cnt ∧ (e k).toNat = a.val) from fun h => ht h.1)]
    have hz : IntOp.addi (cnt a) 0#32 = cnt a := BitVec.add_zero _
    rw [hz, ite_self]

variable (x : Fin 256 → Fin 128 → EReal) (w : Fin 16 → Fin 128 → Fin 256 → EReal) (out : Fin 256 → Fin 256 → EReal)
variable (hx : ∀ t j, (V (Proc.devRef .tc main_v2_1) : FVec 𝕀 S256x128 .bf16) (ix2 t j) = x t j)
variable (hw : ∀ a j n, (V (Proc.devRef .tc main_v2_2) : FVec 𝕀 S16x128x256 .bf16) (ix3 a j n) = w a j n)
variable (ho : ∀ t n, (V (Proc.devRef .tc main_v2_6) : FVec 𝕀 S256x256 .f32) (ix2 t n) = out t n)

/-- The product of a row and a matrix, at an entry. -/
theorem product_at (a : FVec 𝕀 S128 .bf16) (b : FVec 𝕀 S128x256 .bf16) (n : Fin 256) :
    Host.dotGeneral dot_S128_S128x256_S256_0_0_n_1_n_n none (extf .f32 a bitsLt_bf16_f32) (extf .f32 b bitsLt_bf16_f32) (ix1 n)
      = ∑ j : Fin 128, (a (ix1 j) : EReal) * b (ix2 j n) := by
  pointwise

/-- One of two rows by a bit, at an entry. -/
theorem chosen_at (b : IVec S_ 1) (p q : FVec 𝕀 S256 .f32) (n : Fin 256) :
    select (broadcastInDim S256 ![] bcast_S_S256 b) p q (ix1 n) = if b ix0 = 1#1 then p (ix1 n) else q (ix1 n) := by
  have h : broadcastInDim S256 ![] bcast_S_S256 b (ix1 n) = b ix0 := congrArg b (funext fun a => a.elim0)
  show (if broadcastInDim S256 ![] bcast_S_S256 b (ix1 n) = 1#1 then _ else _) = _
  rw [h]

/-- The row a trip writes, of the counter, the choice, the bit and the three arrays it reads. -/
def newRow (i a : IVec S_ 32) (b : IVec S_ 1) (X : FVec 𝕀 S256x128 .bf16) (W : FVec 𝕀 S16x128x256 .bf16) (O : FVec 𝕀 S256x256 .f32) : FVec 𝕀 S256 .f32 :=
  select (broadcastInDim S256 ![] bcast_S_S256 b)
    (Host.dotGeneral (F := 𝕀) dot_S128_S128x256_S256_0_0_n_1_n_n none
      (extf .f32 (shapeCast S128 (Host.dynamicSlice S1x128 X
        (fun k => ((![select (cmpi .slt i (constantI S_ 32 0#32)) (addi i (constantI S_ 32 256#32)) i,
          select (cmpi .slt (constantI S_ 32 0#32) (constantI S_ 32 0#32)) (addi (constantI S_ 32 0#32) (constantI S_ 32 128#32)) (constantI S_ 32 0#32)]
            : Fin 2 → IVec S_ 32) k (Shape.Idx.first h_S_)).toInt) sliceFits_S256x128_S1x128) shapeCasts_S1x128_S128) bitsLt_bf16_f32)
      (extf .f32 (shapeCast S128x256 (Host.dynamicSlice S1x128x256 W
        (fun k => ((![select (cmpi .slt a (constantI S_ 32 0#32)) (addi a (constantI S_ 32 16#32)) a,
          select (cmpi .slt (constantI S_ 32 0#32) (constantI S_ 32 0#32)) (addi (constantI S_ 32 0#32) (constantI S_ 32 128#32)) (constantI S_ 32 0#32),
          select (cmpi .slt (constantI S_ 32 0#32) (constantI S_ 32 0#32)) (addi (constantI S_ 32 0#32) (constantI S_ 32 256#32)) (constantI S_ 32 0#32)]
            : Fin 3 → IVec S_ 32) k (Shape.Idx.first h_S_)).toInt) sliceFits_S16x128x256_S1x128x256) shapeCasts_S1x128x256_S128x256) bitsLt_bf16_f32))
    (shapeCast S256 (Host.dynamicSlice S1x256 O
      (fun k => ((![select (cmpi .slt i (constantI S_ 32 0#32)) (addi i (constantI S_ 32 256#32)) i,
        select (cmpi .slt (constantI S_ 32 0#32) (constantI S_ 32 0#32)) (addi (constantI S_ 32 0#32) (constantI S_ 32 256#32)) (constantI S_ 32 0#32)]
          : Fin 2 → IVec S_ 32) k (Shape.Idx.first h_S_)).toInt) sliceFits_S256x256_S1x256) shapeCasts_S1x256_S256)

set_option maxRecDepth 8192 in
theorem step_row : (step_main_v2_6 V : FVec 𝕀 S256x256 .f32)
    = Host.scatter scatter_S256x256_S1_S256_0_0_0_0 (fun _ b => b) (V (Proc.devRef .tc main_v2_6) : FVec 𝕀 S256x256 .f32)
      (broadcastInDim S1 ![] bcast_S_S1 (id (select (cmpi .slt (V (Proc.devRef .tc main_v2_4) : IVec S_ 32) (constantI S_ 32 0#32))
        (addi (V (Proc.devRef .tc main_v2_4) : IVec S_ 32) (constantI S_ 32 256#32)) (V (Proc.devRef .tc main_v2_4) : IVec S_ 32))))
      (newRow (V (Proc.devRef .tc main_v2_4)) (res_main_while0b_v12 V) (res_main_while0b_v22 V) (V (Proc.devRef .tc main_v2_1))
        (V (Proc.devRef .tc main_v2_2)) (V (Proc.devRef .tc main_v2_6))) := by
  unfold step_main_v2_6 newRow res_main_while0b_v23 res_main_while0b_v46
  refine (id_eq _).trans ?_
  refine congrArg (fun z => Host.scatter scatter_S256x256_S1_S256_0_0_0_0 (fun _ b => b) (V (Proc.devRef .tc main_v2_6) : FVec 𝕀 S256x256 .f32) _ z) ?_
  refine congr (congrArg _ ?_) ?_
  · refine congr (congrArg _ ?_) ?_
    · refine congrArg (fun z => extf .f32 z bitsLt_bf16_f32) ?_
      refine congrArg (fun z => shapeCast S128 z shapeCasts_S1x128_S128) ?_
      rfl
    · rfl
  · rfl

theorem newRow_taken (i a : IVec S_ 32) (b : IVec S_ 1) (X : FVec 𝕀 S256x128 .bf16) (W : FVec 𝕀 S16x128x256 .bf16) (O : FVec 𝕀 S256x256 .f32)
    (v : Fin 16) (hb : b ix0 = 1#1)
    (hi : ∀ d j, (select (cmpi .slt i (constantI S_ 32 0#32)) d i j).toInt = (k.val : ℤ))
    (ha : ∀ d j, (select (cmpi .slt a (constantI S_ 32 0#32)) d a j).toInt = (v.val : ℤ)) (n : Fin 256) :
    newRow i a b X W O (ix1 n) = ∑ j : Fin 128, (X (ix2 k j) : EReal) * W (ix3 v j n) := by
  refine (chosen_at _ _ _ n).trans ?_
  rw [if_pos hb]
  refine (product_at _ _ n).trans (Finset.sum_congr rfl fun j _ => congrArg₂ (fun p q : EReal => p * q) ?_ ?_)
  · exact slice_token X _ k (hi _ _) rfl j
  · exact slice_expert W _ v (ha _ _) rfl rfl j n

theorem newRow_left (i a : IVec S_ 32) (b : IVec S_ 1) (X : FVec 𝕀 S256x128 .bf16) (W : FVec 𝕀 S16x128x256 .bf16) (O : FVec 𝕀 S256x256 .f32)
    (hb : ¬ b ix0 = 1#1) (hi : ∀ d j, (select (cmpi .slt i (constantI S_ 32 0#32)) d i j).toInt = (k.val : ℤ)) (n : Fin 256) :
    newRow i a b X W O (ix1 n) = O (ix2 k n) := by
  refine (chosen_at _ _ _ n).trans ?_
  rw [if_neg hb]
  exact slice_row O _ k (hi _ _) rfl n

open Classical in
include hk he hc hx hw ho in
/-- The result after a trip. -/
theorem out_step (t n : Fin 256) :
    (step_main_v2_6 V : FVec 𝕀 S256x256 .f32) (ix2 t n)
      = if t = k then (if h : taken k e cnt then ∑ j : Fin 128, x k j * w ⟨(e k).toNat, h.1⟩ j n else out k n) else out t n := by
  refine (congrFun (step_row V) (ix2 t n)).trans ?_
  refine (row_at _ _ _ k (ctr_start V k hk _ _) t n).trans ?_
  by_cases hn : t = k
  · rw [if_pos hn, if_pos hn]
    by_cases ht : taken k e cnt
    · rw [dif_pos ht]
      refine (newRow_taken k _ _ _ _ _ _ ⟨(e k).toNat, ht.1⟩ ((take_one V k e hk he cnt hc _).mpr ht) (ctr_start V k hk)
        (choice_start V k e hk he ht.1) n).trans (Finset.sum_congr rfl fun j _ => congrArg₂ (fun p q : EReal => p * q) ?_ ?_)
      · exact hx k j
      · exact hw _ j n
    · rw [dif_neg ht]
      exact (newRow_left k _ _ _ _ _ _ (mt (take_one V k e hk he cnt hc _).mp ht) (ctr_start V k hk) n).trans (ho k n)
  · rw [if_neg hn, if_neg hn]
    exact ho t n

end Cert.Moe.Ref
end
-- ==== Proof.RefValue.lean ====
/-
# `RefValue`: what the reference computes

After `k` trips the first `k` rows of the result are the routed rows, the others are zero, and each expert's count is
the number of earlier tokens that chose it, stopped at 12. After 256 trips the result is `routed` at every entry.
-/
module

public import proofs.«01_k».proof.Proof.RefTrip

@[expose] public section

noncomputable section

namespace Cert.Moe.Ref

open Cert.ReferenceIdeal Cert.ReferenceIdeal.Gen Cert.ReferenceIdeal.Value
open Idealize.ShloMosaic Idealize.ShloMosaic.TcCoe
open Idealize.ShloMosaic.StableHlo Idealize.ShloMosaic.HostLoop
open scoped BigOperators

local notation "𝕀" => Idealize.ShloMosaic.Ideal

variable (e : Fin 256 → BitVec 32) (x : Fin 256 → Fin 128 → EReal) (w : Fin 16 → Fin 128 → Fin 256 → EReal)

/-! ## Counting -/

/-- How many of the first `k` tokens chose expert `a`. -/
def chose (k a : ℕ) : ℕ := (Finset.univ.filter fun s : Fin 256 => s.val < k ∧ (e s).toNat = a).card

theorem chose_zero (a : ℕ) : chose e 0 a = 0 := by simp [chose]

theorem chose_succ (k : Fin 256) (a : ℕ) : chose e (k.val + 1) a = chose e k.val a + if (e k).toNat = a then 1 else 0 := by
  unfold chose
  by_cases h : (e k).toNat = a
  · rw [if_pos h]
    have : (Finset.univ.filter fun s : Fin 256 => s.val < k.val + 1 ∧ (e s).toNat = a)
        = insert k (Finset.univ.filter fun s : Fin 256 => s.val < k.val ∧ (e s).toNat = a) := by
      ext s
      simp only [Finset.mem_filter, Finset.mem_univ, true_and, Finset.mem_insert]
      constructor
      · rintro ⟨h1, h2⟩
        rcases Nat.lt_succ_iff_lt_or_eq.mp h1 with h3 | h3
        · exact Or.inr ⟨h3, h2⟩
        · exact Or.inl (Fin.ext h3)
      · rintro (rfl | ⟨h1, h2⟩)
        · exact ⟨Nat.lt_succ_self _, h⟩
        · exact ⟨Nat.lt_succ_of_lt h1, h2⟩
    rw [this, Finset.card_insert_of_notMem]
    simp
  · rw [if_neg h, Nat.add_zero]
    refine congrArg Finset.card (Finset.filter_congr fun s _ => ?_)
    constructor
    · rintro ⟨h1, h2⟩
      rcases Nat.lt_succ_iff_lt_or_eq.mp h1 with h3 | h3
      · exact ⟨h3, h2⟩
      · rw [Fin.ext h3] at h2; exact absurd h2 h
    · rintro ⟨h1, h2⟩
      exact ⟨Nat.lt_succ_of_lt h1, h2⟩

theorem place_chose (k : Fin 256) (hv : (e k).toNat < 16) : place e k = chose e k.val (e k).toNat := by
  unfold place chose
  rw [if_pos hv]
  refine congrArg Finset.card (Finset.filter_congr fun s _ => ?_)
  exact and_congr Iff.rfl BitVec.toNat_inj.symm

/-- The word a count is kept in. -/
def countWord (k : ℕ) (a : Fin 16) : BitVec 32 := BitVec.ofNat 32 (min 12 (chose e k a.val))

theorem taken_iff (k : Fin 256) : taken k e (countWord e k.val) ↔ (e k).toNat < 16 ∧ place e k < 12 := by
  have key : ∀ h : (e k).toNat < 16, (countWord e k.val ⟨(e k).toNat, h⟩).toInt < 12 ↔ place e k < 12 := by
    intro h
    have hle := min_le_left 12 (chose e k.val (e k).toNat)
    have hiff := min_lt_iff (a := 12) (b := chose e k.val (e k).toNat) (c := 12)
    show (BitVec.ofNat 32 (min 12 (chose e k.val (e k).toNat))).toInt < 12 ↔ _
    rw [nat_toInt (by omega), place_chose e k h]
    omega
  exact ⟨fun ⟨h, h'⟩ => ⟨h, (key h).mp h'⟩, fun ⟨h, h'⟩ => ⟨h, (key h).mpr h'⟩⟩

open Classical in
theorem countWord_succ (k : Fin 256) (a : Fin 16) :
    (if taken k e (countWord e k.val) ∧ (e k).toNat = a.val then countWord e k.val a + 1#32 else countWord e k.val a) = countWord e (k.val + 1) a := by
  have hs := chose_succ e k a.val
  by_cases ha : (e k).toNat = a.val
  · have hv : (e k).toNat < 16 := by have := a.isLt; omega
    rw [if_pos ha] at hs
    have hp := place_chose e k hv
    rw [ha] at hp
    by_cases ht : place e k < 12
    · rw [if_pos ⟨(taken_iff e k).mpr ⟨hv, ht⟩, ha⟩]
      unfold countWord
      rw [hs, min_eq_right (by omega), min_eq_right (by omega), BitVec.ofNat_add]
    · rw [if_neg (fun h => ht ((taken_iff e k).mp h.1).2)]
      unfold countWord
      rw [hs, min_eq_left (by omega), min_eq_left (by omega)]
  · rw [if_neg (fun h => ha h.2)]
    rw [if_neg ha] at hs
    exact congrArg (fun z => BitVec.ofNat 32 (min 12 z)) hs.symm

/-! ## The loop -/

/-- What the carried buffers hold after `k` trips. -/
structure Inv (k : ℕ) (V : Valuation τ sig (Elt 𝕀)) : Prop where
  ctr : ∀ i : S_.Idx, (V (Proc.devRef .tc main_v2_4) : IVec S_ 32) i = BitVec.ofNat 32 k
  choices : ∀ t : Fin 256, (V (Proc.devRef .tc main_v2_0) : IVec S256x1 32) (ix2 t 0) = e t
  tokens : ∀ t j, (V (Proc.devRef .tc main_v2_1) : FVec 𝕀 S256x128 .bf16) (ix2 t j) = x t j
  weights : ∀ a j n, (V (Proc.devRef .tc main_v2_2) : FVec 𝕀 S16x128x256 .bf16) (ix3 a j n) = w a j n
  counts : ∀ a : Fin 16, (V (Proc.devRef .tc main_v2_5) : IVec S16 32) (ix1 a) = countWord e k a
  rows : ∀ t n : Fin 256, (V (Proc.devRef .tc main_v2_6) : FVec 𝕀 S256x256 .f32) (ix2 t n) = if t.val < k then routed e x w t n else (0 : EReal)

variable {e x w}

theorem inv_step (k : Fin 256) {V : Valuation τ sig (Elt 𝕀)} (h : Inv e x w k.val V) : Inv e x w (k.val + 1) (STEP V) where
  ctr i := by
    rw [STEP_main_v2_4]
    have hs : (step_main_v2_4 V : IVec S_ 32) i = IntOp.addi ((V (Proc.devRef .tc main_v2_4) : IVec S_ 32) i) 1#32 := rfl
    exact hs.trans ((congrArg (fun z => IntOp.addi z 1#32) (h.ctr i)).trans (BitVec.ofNat_add k.val 1).symm)
  choices t := by rw [STEP_main_v2_0]; exact h.choices t
  tokens t j := by rw [STEP_main_v2_1]; exact h.tokens t j
  weights a j n := by rw [STEP_main_v2_2]; exact h.weights a j n
  counts a := by
    rw [STEP_main_v2_5]
    exact (counts_step V k e h.ctr h.choices _ h.counts a).trans (countWord_succ e k a)
  rows t n := by
    rw [STEP_main_v2_6]
    refine (out_step V k e h.ctr h.choices _ h.counts x w _ h.tokens h.weights h.rows t n).trans ?_
    by_cases ht : t = k
    · subst ht
      rw [if_pos rfl, if_pos (Nat.lt_succ_self _), if_neg (lt_irrefl _)]
      unfold routed
      by_cases hk : (e t).toNat < 16 ∧ place e t < 12
      · rw [dif_pos ((taken_iff e t).mpr hk), dif_pos hk]
      · rw [dif_neg (mt (taken_iff e t).mp hk), dif_neg hk]
    · rw [if_neg ht]
      have hne : t.val ≠ k.val := fun hv => ht (Fin.ext hv)
      by_cases hl : t.val < k.val
      · rw [if_pos hl, if_pos (by omega)]
      · rw [if_neg hl, if_neg (by omega)]

theorem inv_iterate {V : Valuation τ sig (Elt 𝕀)} (h : Inv e x w 0 V) : ∀ k : ℕ, k ≤ 256 → Inv e x w k (STEP^[k] V)
  | 0, _ => h
  | k + 1, hk => by
    rw [Function.iterate_succ_apply']
    exact inv_step ⟨k, hk⟩ (inv_iterate h k (by omega))

variable (m : (ℓ : Loc nD τ sig) → Buf (Elt 𝕀) ℓ) (c : Dev nD)

theorem entry0 : entryContents preI m c (Proc.devRef .tc main_v2_0) = m (c.tc.loc main_arg2) := by
  simp only [entryContents, afterL_cons, afterL_nil]
  after_reads_simp
  rfl
theorem entry1 : entryContents preI m c (Proc.devRef .tc main_v2_1) = m (c.tc.loc main_arg0) := by
  simp only [entryContents, afterL_cons, afterL_nil]
  after_reads_simp
  rfl
theorem entry2 : entryContents preI m c (Proc.devRef .tc main_v2_2) = m (c.tc.loc main_arg3) := by
  simp only [entryContents, afterL_cons, afterL_nil]
  after_reads_simp
  rfl
theorem entry4 : entryContents preI m c (Proc.devRef .tc main_v2_4) = fun _ => (0#32 : BitVec 32) := by
  simp only [entryContents, afterL_cons, afterL_nil]
  after_reads_simp
  rfl
theorem entry5 : entryContents preI m c (Proc.devRef .tc main_v2_5) = fun _ => (0#32 : BitVec 32) := by
  simp only [entryContents, afterL_cons, afterL_nil]
  after_reads_simp
  rfl
theorem entry6 : (entryContents preI m c (Proc.devRef .tc main_v2_6) : FVec 𝕀 S256x256 .f32) = fun _ => (0 : EReal) := by
  have h : entryContents preI m c (Proc.devRef .tc main_v2_6) = fun _ => (FloatOps.ofBits (F := 𝕀) .f32 0#32 : EReal) := by
    simp only [entryContents, afterL_cons, afterL_nil]
    after_reads_simp
    rfl
  rw [h]
  funext i
  exact Ideal.ofBits_zero_f32

/-- THE REFERENCE'S VALUE: after all trips, `routed` at every entry. -/
theorem value_at (he : ∀ t : Fin 256, (m (c.tc.loc main_arg2) : IVec S256x1 32) (ix2 t 0) = e t)
    (hx : ∀ t j, (m (c.tc.loc main_arg0) : FVec 𝕀 S256x128 .bf16) (ix2 t j) = x t j)
    (hw : ∀ a j n, (m (c.tc.loc main_arg3) : FVec 𝕀 S16x128x256 .bf16) (ix3 a j n) = w a j n) (t n : Fin 256) :
    (STEP^[256] (entryContents preI m c) (Proc.devRef .tc main_v2_6) : FVec 𝕀 S256x256 .f32) (ix2 t n) = routed e x w t n := by
  have h0 : Inv e x w 0 (entryContents preI m c) :=
    { ctr := fun i => by rw [entry4]
      choices := fun t => by rw [entry0]; exact he t
      tokens := fun t j => by rw [entry1]; exact hx t j
      weights := fun a j n => by rw [entry2]; exact hw a j n
      counts := fun a => by rw [entry5]; unfold countWord; rw [chose_zero]; rfl
      rows := fun t n => by rw [entry6, if_neg (Nat.not_lt_zero _)] }
  exact ((inv_iterate h0 256 le_rfl).rows t n).trans (if_pos t.isLt)

end Cert.Moe.Ref
end
-- ==== Proof.Equation.lean ====
/-
# `Equation`: the kernel computes the reference

Each window of the kernel is its whole array, so the kernel reads the arguments and writes the result whole. Given the
tokens, the choices and its two experts' matrices, cut from the reference's sixteen, every device ends with `routed`, as
the reference does.
-/
module

public import proofs.«01_k».proof.Proof.Frames
public import proofs.«01_k».proof.Proof.RefValue
public import proofs.«01_k».proof.Proof.Gen.KernelIdeal.Points
public import Idealize.ShloMosaic.Lib.Pipeline.Value
public import Idealize.ShloMosaic.Lib.Layout

@[expose] public section

noncomputable section

namespace Cert.Moe

open Cert.KernelIdeal Cert.KernelIdeal.Gen
open Idealize.ShloMosaic Idealize.ShloMosaic.TcCoe
open Idealize.SL.Sem

local notation "𝕀" => Idealize.ShloMosaic.Ideal

section
variable {F : FTy → Type} [FloatOps F] (m : (ℓ : Loc nD τ sig) → Buf (Elt F) ℓ) (ρ : Dev nD → PrngReg)

/-! ## The windows are whole -/

omit [FloatOps F] in
theorem xAt_eq (c : Dev nD) : xAt m c = m ((c : Thread nD τ).loc main_arg0) := by
  funext i
  refine congrArg (m ((c : Thread nD τ).loc main_arg0)) (funext fun a => Fin.ext ?_)
  exact (win0_0).rect_emb_val_of_index_zero (0 : Fin 1) a (by match a with | ⟨0, _⟩ => rfl | ⟨1, _⟩ => rfl) i

omit [FloatOps F] in
theorem iAt_eq (c : Dev nD) : iAt m c = m ((c : Thread nD τ).loc main_arg2) := by
  funext i
  refine congrArg (m ((c : Thread nD τ).loc main_arg2)) (funext fun a => Fin.ext ?_)
  exact (win0_1).rect_emb_val_of_index_zero (0 : Fin 1) a (by match a with | ⟨0, _⟩ => rfl | ⟨1, _⟩ => rfl) i

omit [FloatOps F] in
theorem wAt_eq (c : Dev nD) : wAt m c = m ((c : Thread nD τ).loc main_arg3) := by
  funext i
  refine congrArg (m ((c : Thread nD τ).loc main_arg3)) (funext fun a => Fin.ext ?_)
  exact (win0_2).rect_emb_val_of_index_zero (0 : Fin 1) a (by match a with | ⟨0, _⟩ => rfl | ⟨1, _⟩ => rfl | ⟨2, _⟩ => rfl) i

omit [FloatOps F] in
theorem out_index (i : S256x256.Idx) : (win0_3.blk (0 : Fin 1)).view.emb i = i := by
  refine funext fun a => Fin.ext ?_
  exact (win0_3).rect_emb_val_of_index_zero (0 : Fin 1) a (by match a with | ⟨0, _⟩ => rfl | ⟨1, _⟩ => rfl) i

/-- The result's array ends at what the kernel wrote. -/
theorem finalA_out (c : Dev nD) : finalA m ρ c (3 : Fin 4) = outAt m c := by
  refine (dats m ρ 0 c).arrAt_eq_of_cover (3 : Fin 4) (outAt m c) (fun t _ => ?_) (fun i => ⟨t₀, flush0_3 _, ?_⟩)
  · obtain rfl := fin_N t
    funext i
    refine Eq.trans ?_ (congrArg (outAt m c) (out_index i)).symm
    rfl
  · rw [← out_index i]
    exact View.emb_mem_set _ _
end

/-! ## The claim -/

/-- A device's two matrices are its cut of the sixteen. -/
theorem cut_at (W : Cert.ReferenceIdeal.S16x128x256.Idx → EReal) (c : Dev nD) (l : Fin 2) (k : Fin 128) (n : Fin 256) :
    Layout.block ⟨3, ![2, 128, 256]⟩ ⟨3, ![16, 128, 256]⟩ 0 8 c W (by decide) (ix3 l k n)
      = W (ix3 ⟨2 * c.val + l.val, expert_lt c l⟩ k n) := by
  refine congrArg W (funext fun a => Fin.ext ?_)
  match a with
  | ⟨0, _⟩ => show c.val * 2 + l.val = 2 * c.val + l.val; omega
  | ⟨1, _⟩ => rfl
  | ⟨2, _⟩ => rfl

theorem equation : Cert.algebraic_KernelIdeal_ReferenceIdeal := by
  intro m g m' g' _ hargs
  let a0 : FVec 𝕀 S256x128 .bf16 := m' (((0 : Dev Cert.ReferenceIdeal.nD).tc : Thread Cert.ReferenceIdeal.nD Cert.ReferenceIdeal.τ).loc Cert.ReferenceIdeal.main_arg0)
  let a2 : IVec S256x1 32 := m' (((0 : Dev Cert.ReferenceIdeal.nD).tc : Thread Cert.ReferenceIdeal.nD Cert.ReferenceIdeal.τ).loc Cert.ReferenceIdeal.main_arg2)
  let a3 : FVec 𝕀 Cert.ReferenceIdeal.S16x128x256 .bf16 := m' (((0 : Dev Cert.ReferenceIdeal.nD).tc : Thread Cert.ReferenceIdeal.nD Cert.ReferenceIdeal.τ).loc Cert.ReferenceIdeal.main_arg3)
  let e : Fin 256 → BitVec 32 := fun t => a2 (ix2 t 0)
  let x : Fin 256 → Fin 128 → EReal := fun t k => a0 (ix2 t k)
  let w : Fin 16 → Fin 128 → Fin 256 → EReal := fun a k n => a3 (ix3 a k n)
  let out : FVec 𝕀 S256x256 .f32 := fun i => routed e x w (i 0) (i 1)
  have hi : ∀ i : S256x256.Idx, i = ix2 (i 0) (i 1) := fun i => funext fun a => by
    match a with
    | ⟨0, _⟩ => rfl
    | ⟨1, _⟩ => rfl
  have hker : ∀ c : Dev nD, outAt m c = out := by
    intro c
    funext i
    rw [hi i]
    refine out_at m e x w (fun d t => ?_) (fun d t k => ?_) (fun d l k n => ?_) c (i 0) (i 1)
    · exact (congrFun (iAt_eq m d) _).trans <| congrFun (hargs d).2.2.1 _
    · exact (congrFun (xAt_eq m d) _).trans <| congrFun (hargs d).1 _
    · exact (congrFun (wAt_eq m d) _).trans <| (congrFun (hargs d).2.2.2 _).trans (cut_at a3 d l k n)
  refine ⟨out, (θ_run defs _ _).mono (fun r h c => ?_) (run_main m g),
    (θ_run Cert.ReferenceIdeal.defs _ _).mono (fun r h => ?_) (Cert.ReferenceIdeal.Value.run (F := 𝕀) m' g')⟩
  · exact ⟨((h.1 c).1 (3 : Fin 4)).trans ((finalA_out m g c).trans (hker c)), args_kept m g h.1 c⟩
  · refine ⟨(h 0).1.trans ?_, (h 0).2⟩
    funext i
    have := Ref.value_at (e := e) (x := x) (w := w) m' 0 (fun _ => rfl) (fun _ _ => rfl) (fun _ _ _ => rfl) (i 0) (i 1)
    rw [hi i]
    exact this

end Cert.Moe
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Moe.quiet_bits, Cert.Moe.quiet_ideal, Cert.Moe.quiet_reference, trivial, Cert.Moe.equation⟩

end Cert.Proof

end
